-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_rows_drawn [hPre_rows_drawn : Cert.Pre_rows_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_rows_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_drawn [hPre_rows_drawn : Cert.Pre_rows_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_rows_drawn [hKernelIdeal : Cert.KernelIdeal.Facts] [hPre_rows_drawn : Cert.Pre_rows_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_rows_drawn [hReferenceIdeal : Cert.ReferenceIdeal.Facts] [hPre_rows_drawn : Cert.Pre_rows_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_rows_drawn [hKernelIdeal : Cert.KernelIdeal.Facts] [hReferenceIdeal : Cert.ReferenceIdeal.Facts] [hPre_rows_drawn : Cert.Pre_rows_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_rows_named : Cert.Pre_rows_named.Facts) (hPre_rows_drawn : Cert.Pre_rows_drawn.Facts),
    quiescent_Kernel (hKernel := hKernel) (hPre_rows_named := hPre_rows_named)
    ∧ quiescent_KernelIdeal (hKernelIdeal := hKernelIdeal) (hPre_rows_named := hPre_rows_named)
    ∧ quiescent_KernelIdeal_pre_rows_drawn (hKernelIdeal := hKernelIdeal) (hPre_rows_drawn := hPre_rows_drawn)
    ∧ quiescent_ReferenceIdeal (hReferenceIdeal := hReferenceIdeal)
    ∧ quiescent_ReferenceIdeal_pre_rows_drawn (hReferenceIdeal := hReferenceIdeal) (hPre_rows_drawn := hPre_rows_drawn)
    ∧ preserves_Kernel_KernelIdeal
    ∧ algebraic_KernelIdeal_ReferenceIdeal_pre_rows_drawn (hKernelIdeal := hKernelIdeal) (hReferenceIdeal := hReferenceIdeal) (hPre_rows_drawn := hPre_rows_drawn)
-- ==== Pre_rows_drawn.lean ====
abbrev S4x8192x128 : Shape := ⟨3, ![4, 8192, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S131x16 : Shape := ⟨2, ![131, 16]⟩
abbrev S16 : Shape := ⟨1, ![16]⟩
abbrev S16x1024 : Shape := ⟨2, ![16, 1024]⟩
abbrev S1024 : Shape := ⟨1, ![1024]⟩
abbrev S131 : Shape := ⟨1, ![131]⟩
abbrev S4x16 : Shape := ⟨2, ![4, 16]⟩
abbrev S4x16x16 : Shape := ⟨3, ![4, 16, 16]⟩
abbrev S_ : Shape := ⟨0, ![]⟩

class Facts : Prop where
  bcast_S4x16_S4x16x16_0_1 : S4x16.BroadcastsInDim S4x16x16 (![0, 1] : Fin 2 → Fin S4x16x16.rank)
  bcast_S4x16_S4x16x16_0_2 : S4x16.BroadcastsInDim S4x16x16 (![0, 2] : Fin 2 → Fin S4x16x16.rank)
  bcast_S_S4x16x16 : S_.BroadcastsInDim S4x16x16 (![] : Fin 0 → Fin S4x16x16.rank)

variable [Facts]

def fn {F : FTy → Type} [FloatOps F] (main_arg0 : FVec F S4x8192x128 .f32) (main_arg1 : FVec F S128x64 .f32) (main_arg2 : FVec F S64 .f32) (main_arg3 : FVec F S64x1 .f32) (main_arg4 : FVec F S1 .f32) (main_arg5 : FVec F S131x16 .f32) (main_arg6 : FVec F S16 .f32) (main_arg7 : FVec F S16x1024 .f32) (main_arg8 : FVec F S1024 .f32) (main_arg9 : FVec F S131 .f32) (main_arg10 : FVec F S131 .f32) (main_arg11 : IVec S4x16 32) : IVec S4x16x16 1 :=
  let main_v0 : IVec S4x16x16 32 := broadcastInDim S4x16x16 ![0, 1] bcast_S4x16_S4x16x16_0_1 main_arg11
  let main_v1 : IVec S4x16x16 32 := broadcastInDim S4x16x16 ![0, 2] bcast_S4x16_S4x16x16_0_2 main_arg11
  let main_v2 : IVec S4x16x16 32 := iotaInDim S4x16x16 32 1
  let main_v3 : IVec S4x16x16 32 := iotaInDim S4x16x16 32 2
  let main_c : IVec S_ 32 := constantI S_ 32 0#32
  let main_v4 : IVec S4x16x16 32 := broadcastInDim S4x16x16 ![] bcast_S_S4x16x16 main_c
  let main_v5 : IVec S4x16x16 1 := cmpi .sge main_v0 main_v4
  let main_c_0 : IVec S_ 32 := constantI S_ 32 8192#32
  let main_v6 : IVec S4x16x16 32 := broadcastInDim S4x16x16 ![] bcast_S_S4x16x16 main_c_0
  let main_v7 : IVec S4x16x16 1 := cmpi .slt main_v0 main_v6
  let main_v8 : IVec S4x16x16 1 := andi main_v5 main_v7
  let main_v9 : IVec S4x16x16 1 := cmpi .ne main_v0 main_v1
  let main_v10 : IVec S4x16x16 1 := cmpi .eq main_v2 main_v3
  let main_v11 : IVec S4x16x16 1 := ori main_v9 main_v10
  let main_v12 : IVec S4x16x16 1 := andi main_v8 main_v11
  main_v12
-- ==== Pre_rows_named.lean ====
abbrev S4x8192x128 : Shape := ⟨3, ![4, 8192, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S131x16 : Shape := ⟨2, ![131, 16]⟩
abbrev S16 : Shape := ⟨1, ![16]⟩
abbrev S16x1024 : Shape := ⟨2, ![16, 1024]⟩
abbrev S1024 : Shape := ⟨1, ![1024]⟩
abbrev S131 : Shape := ⟨1, ![131]⟩
abbrev S4x16 : Shape := ⟨2, ![4, 16]⟩
abbrev S_ : Shape := ⟨0, ![]⟩

class Facts : Prop where
  bcast_S_S4x16 : S_.BroadcastsInDim S4x16 (![] : Fin 0 → Fin S4x16.rank)

variable [Facts]

def fn {F : FTy → Type} [FloatOps F] (main_arg0 : FVec F S4x8192x128 .f32) (main_arg1 : FVec F S128x64 .f32) (main_arg2 : FVec F S64 .f32) (main_arg3 : FVec F S64x1 .f32) (main_arg4 : FVec F S1 .f32) (main_arg5 : FVec F S131x16 .f32) (main_arg6 : FVec F S16 .f32) (main_arg7 : FVec F S16x1024 .f32) (main_arg8 : FVec F S1024 .f32) (main_arg9 : FVec F S131 .f32) (main_arg10 : FVec F S131 .f32) (main_arg11 : IVec S4x16 32) : IVec S4x16 1 :=
  let main_c : IVec S_ 32 := constantI S_ 32 0#32
  let main_v0 : IVec S4x16 32 := broadcastInDim S4x16 ![] bcast_S_S4x16 main_c
  let main_v1 : IVec S4x16 1 := cmpi .sge main_arg11 main_v0
  let main_c_0 : IVec S_ 32 := constantI S_ 32 8192#32
  let main_v2 : IVec S4x16 32 := broadcastInDim S4x16 ![] bcast_S_S4x16 main_c_0
  let main_v3 : IVec S4x16 1 := cmpi .slt main_arg11 main_v2
  let main_v4 : IVec S4x16 1 := andi main_v1 main_v3
  main_v4
-- ==== Kernel.lean ====
abbrev S4x8192x128 : Shape := ⟨3, ![4, 8192, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S131x16 : Shape := ⟨2, ![131, 16]⟩
abbrev S16 : Shape := ⟨1, ![16]⟩
abbrev S16x1024 : Shape := ⟨2, ![16, 1024]⟩
abbrev S1024 : Shape := ⟨1, ![1024]⟩
abbrev S131 : Shape := ⟨1, ![131]⟩
abbrev S4x16 : Shape := ⟨2, ![4, 16]⟩
abbrev S1x64 : Shape := ⟨2, ![1, 64]⟩
abbrev S1x1 : Shape := ⟨2, ![1, 1]⟩
abbrev S1x16 : Shape := ⟨2, ![1, 16]⟩
abbrev S1x1024 : Shape := ⟨2, ![1, 1024]⟩
abbrev S1x131 : Shape := ⟨2, ![1, 131]⟩
abbrev S4x16x1 : Shape := ⟨3, ![4, 16, 1]⟩
abbrev S4x1x16 : Shape := ⟨3, ![4, 1, 16]⟩
abbrev S4x16x1024 : Shape := ⟨3, ![4, 16, 1024]⟩
abbrev S4x64x128 : Shape := ⟨3, ![4, 64, 128]⟩
abbrev S1x8192x128 : Shape := ⟨3, ![1, 8192, 128]⟩
abbrev S1x16x1 : Shape := ⟨3, ![1, 16, 1]⟩
abbrev S1x1x16 : Shape := ⟨3, ![1, 1, 16]⟩
abbrev S1x16x1024 : Shape := ⟨3, ![1, 16, 1024]⟩
abbrev S1x64x128 : Shape := ⟨3, ![1, 64, 128]⟩
abbrev S8192x128 : Shape := ⟨2, ![8192, 128]⟩
abbrev S8192x64 : Shape := ⟨2, ![8192, 64]⟩
abbrev S64x8192 : Shape := ⟨2, ![64, 8192]⟩
abbrev S1x8192 : Shape := ⟨2, ![1, 8192]⟩
abbrev S64x128 : Shape := ⟨2, ![64, 128]⟩
abbrev S128x128 : Shape := ⟨2, ![128, 128]⟩
abbrev S64x64 : Shape := ⟨2, ![64, 64]⟩
abbrev S1x128 : Shape := ⟨2, ![1, 128]⟩
abbrev S1x1x1 : Shape := ⟨3, ![1, 1, 1]⟩
abbrev S1x1x128 : Shape := ⟨3, ![1, 1, 128]⟩
abbrev S16x128 : Shape := ⟨2, ![16, 128]⟩
abbrev S16x1 : Shape := ⟨2, ![16, 1]⟩
abbrev S16x64 : Shape := ⟨2, ![16, 64]⟩
abbrev S16x131 : Shape := ⟨2, ![16, 131]⟩
abbrev S16x16 : Shape := ⟨2, ![16, 16]⟩
abbrev S4x8192 : Shape := ⟨2, ![4, 8192]⟩

abbrev nBuf : Space → Nat
  | .hbm => 24
  | .vmem => 18
  | .smem => 2
  | _ => 0

abbrev bufTy : (tb : Table) → Fin (tcTables nBuf tb) → BufTy
  | .hbm, ⟨0, _⟩ => ⟨S4x8192x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S131x16, .f32⟩
  | .hbm, ⟨6, _⟩ => ⟨S16, .f32⟩
  | .hbm, ⟨7, _⟩ => ⟨S16x1024, .f32⟩
  | .hbm, ⟨8, _⟩ => ⟨S1024, .f32⟩
  | .hbm, ⟨9, _⟩ => ⟨S131, .f32⟩
  | .hbm, ⟨10, _⟩ => ⟨S131, .f32⟩
  | .hbm, ⟨11, _⟩ => ⟨S4x16, .i32⟩
  | .hbm, ⟨12, _⟩ => ⟨S1x64, .f32⟩
  | .hbm, ⟨13, _⟩ => ⟨S1x64, .f32⟩
  | .hbm, ⟨14, _⟩ => ⟨S1x1, .f32⟩
  | .hbm, ⟨15, _⟩ => ⟨S1x16, .f32⟩
  | .hbm, ⟨16, _⟩ => ⟨S1x1024, .f32⟩
  | .hbm, ⟨17, _⟩ => ⟨S1x131, .f32⟩
  | .hbm, ⟨18, _⟩ => ⟨S1x131, .f32⟩
  | .hbm, ⟨19, _⟩ => ⟨S4x16x1, .i32⟩
  | .hbm, ⟨20, _⟩ => ⟨S4x1x16, .i32⟩
  | .hbm, ⟨21, _⟩ => ⟨S4x16x1024, .f32⟩
  | .hbm, ⟨22, _⟩ => ⟨S4x64x128, .f32⟩
  | .hbm, ⟨23, _⟩ => ⟨S4x8192, .f32⟩
  | .local _ .vmem, ⟨0, _⟩ => ⟨S1x8192x128, .f32⟩
  | .local _ .vmem, ⟨1, _⟩ => ⟨S1x8192x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S131x16, .f32⟩
  | .local _ .vmem, ⟨7, _⟩ => ⟨S1x16, .f32⟩
  | .local _ .vmem, ⟨8, _⟩ => ⟨S16x1024, .f32⟩
  | .local _ .vmem, ⟨9, _⟩ => ⟨S1x1024, .f32⟩
  | .local _ .vmem, ⟨10, _⟩ => ⟨S1x131, .f32⟩
  | .local _ .vmem, ⟨11, _⟩ => ⟨S1x131, .f32⟩
  | .local _ .vmem, ⟨12, _⟩ => ⟨S1x16x1, .i32⟩
  | .local _ .vmem, ⟨13, _⟩ => ⟨S1x16x1, .i32⟩
  | .local _ .vmem, ⟨14, _⟩ => ⟨S1x16x1024, .f32⟩
  | .local _ .vmem, ⟨15, _⟩ => ⟨S1x16x1024, .f32⟩
  | .local _ .vmem, ⟨16, _⟩ => ⟨S1x64x128, .f32⟩
  | .local _ .vmem, ⟨17, _⟩ => ⟨S1x64x128, .f32⟩
  | .local _ .smem, ⟨0, _⟩ => ⟨S1x1x16, .i32⟩
  | .local _ .smem, ⟨1, _⟩ => ⟨S1x1x16, .i32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg12_0 : Ref sig .tc := ⟨.smem, 0, rfl⟩
abbrev cc0_stg12_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![4], ![false]⟩

def k0_off1 (v74 : BitVec 32) : Fin 3 → Nat :=
  let c0_26 : Index := 0#32
  let v75 : Index := Scalar.indexCast v74
  let c0_27 : Index := 0#32
  ![0, v75.toNat, 0]

def k0_chk1 (v74 : BitVec 32) : Prop :=
  (∀ a, (k0_off1 v74) a + S1x1x128.size a ≤ S1x8192x128.size a)
theorem k0_off1_inb : ∀ (v74 : BitVec 32) (k0_hw1 : k0_chk1 v74), ∀ a, (k0_off1 v74) a + S1x1x128.size a ≤ S1x8192x128.size a := fun v74 k0_hw1 => k0_hw1

def k0_off2 (v78 : BitVec 32) : Fin 3 → Nat :=
  let c0_30 : Index := 0#32
  let v79 : Index := Scalar.indexCast v78
  let c0_31 : Index := 0#32
  ![0, v79.toNat, 0]

def k0_chk2 (v78 : BitVec 32) : Prop :=
  (∀ a, (k0_off2 v78) a + S1x1x128.size a ≤ S1x8192x128.size a)
theorem k0_off2_inb : ∀ (v78 : BitVec 32) (k0_hw2 : k0_chk2 v78), ∀ a, (k0_off2 v78) a + S1x1x128.size a ≤ S1x8192x128.size a := fun v78 k0_hw2 => k0_hw2

def k0_off3 (v82 : BitVec 32) : Fin 3 → Nat :=
  let c0_34 : Index := 0#32
  let v83 : Index := Scalar.indexCast v82
  let c0_35 : Index := 0#32
  ![0, v83.toNat, 0]

def k0_chk3 (v82 : BitVec 32) : Prop :=
  (∀ a, (k0_off3 v82) a + S1x1x128.size a ≤ S1x8192x128.size a)
theorem k0_off3_inb : ∀ (v82 : BitVec 32) (k0_hw3 : k0_chk3 v82), ∀ a, (k0_off3 v82) a + S1x1x128.size a ≤ S1x8192x128.size a := fun v82 k0_hw3 => k0_hw3

def k0_off4 (v86 : BitVec 32) : Fin 3 → Nat :=
  let c0_38 : Index := 0#32
  let v87 : Index := Scalar.indexCast v86
  let c0_39 : Index := 0#32
  ![0, v87.toNat, 0]

def k0_chk4 (v86 : BitVec 32) : Prop :=
  (∀ a, (k0_off4 v86) a + S1x1x128.size a ≤ S1x8192x128.size a)
theorem k0_off4_inb : ∀ (v86 : BitVec 32) (k0_hw4 : k0_chk4 v86), ∀ a, (k0_off4 v86) a + S1x1x128.size a ≤ S1x8192x128.size a := fun v86 k0_hw4 => k0_hw4

def k0_off5 (v90 : BitVec 32) : Fin 3 → Nat :=
  let c0_42 : Index := 0#32
  let v91 : Index := Scalar.indexCast v90
  let c0_43 : Index := 0#32
  ![0, v91.toNat, 0]

def k0_chk5 (v90 : BitVec 32) : Prop :=
  (∀ a, (k0_off5 v90) a + S1x1x128.size a ≤ S1x8192x128.size a)
theorem k0_off5_inb : ∀ (v90 : BitVec 32) (k0_hw5 : k0_chk5 v90), ∀ a, (k0_off5 v90) a + S1x1x128.size a ≤ S1x8192x128.size a := fun v90 k0_hw5 => k0_hw5

def k0_off6 (v94 : BitVec 32) : Fin 3 → Nat :=
  let c0_46 : Index := 0#32
  let v95 : Index := Scalar.indexCast v94
  let c0_47 : Index := 0#32
  ![0, v95.toNat, 0]

def k0_chk6 (v94 : BitVec 32) : Prop :=
  (∀ a, (k0_off6 v94) a + S1x1x128.size a ≤ S1x8192x128.size a)
theorem k0_off6_inb : ∀ (v94 : BitVec 32) (k0_hw6 : k0_chk6 v94), ∀ a, (k0_off6 v94) a + S1x1x128.size a ≤ S1x8192x128.size a := fun v94 k0_hw6 => k0_hw6

def k0_off7 (v98 : BitVec 32) : Fin 3 → Nat :=
  let c0_50 : Index := 0#32
  let v99 : Index := Scalar.indexCast v98
  let c0_51 : Index := 0#32
  ![0, v99.toNat, 0]

def k0_chk7 (v98 : BitVec 32) : Prop :=
  (∀ a, (k0_off7 v98) a + S1x1x128.size a ≤ S1x8192x128.size a)
theorem k0_off7_inb : ∀ (v98 : BitVec 32) (k0_hw7 : k0_chk7 v98), ∀ a, (k0_off7 v98) a + S1x1x128.size a ≤ S1x8192x128.size a := fun v98 k0_hw7 => k0_hw7

def k0_off8 (v102 : BitVec 32) : Fin 3 → Nat :=
  let c0_54 : Index := 0#32
  let v103 : Index := Scalar.indexCast v102
  let c0_55 : Index := 0#32
  ![0, v103.toNat, 0]

def k0_chk8 (v102 : BitVec 32) : Prop :=
  (∀ a, (k0_off8 v102) a + S1x1x128.size a ≤ S1x8192x128.size a)
theorem k0_off8_inb : ∀ (v102 : BitVec 32) (k0_hw8 : k0_chk8 v102), ∀ a, (k0_off8 v102) a + S1x1x128.size a ≤ S1x8192x128.size a := fun v102 k0_hw8 => k0_hw8

def k0_off9 (v106 : BitVec 32) : Fin 3 → Nat :=
  let c0_58 : Index := 0#32
  let v107 : Index := Scalar.indexCast v106
  let c0_59 : Index := 0#32
  ![0, v107.toNat, 0]

def k0_chk9 (v106 : BitVec 32) : Prop :=
  (∀ a, (k0_off9 v106) a + S1x1x128.size a ≤ S1x8192x128.size a)
theorem k0_off9_inb : ∀ (v106 : BitVec 32) (k0_hw9 : k0_chk9 v106), ∀ a, (k0_off9 v106) a + S1x1x128.size a ≤ S1x8192x128.size a := fun v106 k0_hw9 => k0_hw9

def k0_off10 (v110 : BitVec 32) : Fin 3 → Nat :=
  let c0_62 : Index := 0#32
  let v111 : Index := Scalar.indexCast v110
  let c0_63 : Index := 0#32
  ![0, v111.toNat, 0]

def k0_chk10 (v110 : BitVec 32) : Prop :=
  (∀ a, (k0_off10 v110) a + S1x1x128.size a ≤ S1x8192x128.size a)
theorem k0_off10_inb : ∀ (v110 : BitVec 32) (k0_hw10 : k0_chk10 v110), ∀ a, (k0_off10 v110) a + S1x1x128.size a ≤ S1x8192x128.size a := fun v110 k0_hw10 => k0_hw10

def k0_off11 (v114 : BitVec 32) : Fin 3 → Nat :=
  let c0_66 : Index := 0#32
  let v115 : Index := Scalar.indexCast v114
  let c0_67 : Index := 0#32
  ![0, v115.toNat, 0]

def k0_chk11 (v114 : BitVec 32) : Prop :=
  (∀ a, (k0_off11 v114) a + S1x1x128.size a ≤ S1x8192x128.size a)
theorem k0_off11_inb : ∀ (v114 : BitVec 32) (k0_hw11 : k0_chk11 v114), ∀ a, (k0_off11 v114) a + S1x1x128.size a ≤ S1x8192x128.size a := fun v114 k0_hw11 => k0_hw11

def k0_off12 (v118 : BitVec 32) : Fin 3 → Nat :=
  let c0_70 : Index := 0#32
  let v119 : Index := Scalar.indexCast v118
  let c0_71 : Index := 0#32
  ![0, v119.toNat, 0]

def k0_chk12 (v118 : BitVec 32) : Prop :=
  (∀ a, (k0_off12 v118) a + S1x1x128.size a ≤ S1x8192x128.size a)
theorem k0_off12_inb : ∀ (v118 : BitVec 32) (k0_hw12 : k0_chk12 v118), ∀ a, (k0_off12 v118) a + S1x1x128.size a ≤ S1x8192x128.size a := fun v118 k0_hw12 => k0_hw12

def k0_off13 (v122 : BitVec 32) : Fin 3 → Nat :=
  let c0_74 : Index := 0#32
  let v123 : Index := Scalar.indexCast v122
  let c0_75 : Index := 0#32
  ![0, v123.toNat, 0]

def k0_chk13 (v122 : BitVec 32) : Prop :=
  (∀ a, (k0_off13 v122) a + S1x1x128.size a ≤ S1x8192x128.size a)
theorem k0_off13_inb : ∀ (v122 : BitVec 32) (k0_hw13 : k0_chk13 v122), ∀ a, (k0_off13 v122) a + S1x1x128.size a ≤ S1x8192x128.size a := fun v122 k0_hw13 => k0_hw13

def k0_off14 (v126 : BitVec 32) : Fin 3 → Nat :=
  let c0_78 : Index := 0#32
  let v127 : Index := Scalar.indexCast v126
  let c0_79 : Index := 0#32
  ![0, v127.toNat, 0]

def k0_chk14 (v126 : BitVec 32) : Prop :=
  (∀ a, (k0_off14 v126) a + S1x1x128.size a ≤ S1x8192x128.size a)
theorem k0_off14_inb : ∀ (v126 : BitVec 32) (k0_hw14 : k0_chk14 v126), ∀ a, (k0_off14 v126) a + S1x1x128.size a ≤ S1x8192x128.size a := fun v126 k0_hw14 => k0_hw14

def k0_off15 (v130 : BitVec 32) : Fin 3 → Nat :=
  let c0_82 : Index := 0#32
  let v131 : Index := Scalar.indexCast v130
  let c0_83 : Index := 0#32
  ![0, v131.toNat, 0]

def k0_chk15 (v130 : BitVec 32) : Prop :=
  (∀ a, (k0_off15 v130) a + S1x1x128.size a ≤ S1x8192x128.size a)
theorem k0_off15_inb : ∀ (v130 : BitVec 32) (k0_hw15 : k0_chk15 v130), ∀ a, (k0_off15 v130) a + S1x1x128.size a ≤ S1x8192x128.size a := fun v130 k0_hw15 => k0_hw15

def k0_off16 (v134 : BitVec 32) : Fin 3 → Nat :=
  let c0_86 : Index := 0#32
  let v135 : Index := Scalar.indexCast v134
  let c0_87 : Index := 0#32
  ![0, v135.toNat, 0]

def k0_chk16 (v134 : BitVec 32) : Prop :=
  (∀ a, (k0_off16 v134) a + S1x1x128.size a ≤ S1x8192x128.size a)
theorem k0_off16_inb : ∀ (v134 : BitVec 32) (k0_hw16 : k0_chk16 v134), ∀ a, (k0_off16 v134) a + S1x1x128.size a ≤ S1x8192x128.size a := fun v134 k0_hw16 => k0_hw16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S131x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x131 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x131 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x1 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .smem S1x1x16 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4x8192x128 : Shape := ⟨3, ![4, 8192, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S131x16 : Shape := ⟨2, ![131, 16]⟩
abbrev S16 : Shape := ⟨1, ![16]⟩
abbrev S16x1024 : Shape := ⟨2, ![16, 1024]⟩
abbrev S1024 : Shape := ⟨1, ![1024]⟩
abbrev S131 : Shape := ⟨1, ![131]⟩
abbrev S4x16 : Shape := ⟨2, ![4, 16]⟩
abbrev S4x8192x64 : Shape := ⟨3, ![4, 8192, 64]⟩
abbrev S1x1x64 : Shape := ⟨3, ![1, 1, 64]⟩
abbrev S4x8192x1 : Shape := ⟨3, ![4, 8192, 1]⟩
abbrev S1x1x1 : Shape := ⟨3, ![1, 1, 1]⟩
abbrev S4x8192 : Shape := ⟨2, ![4, 8192]⟩
abbrev S_ : Shape := ⟨0, ![]⟩
abbrev S4 : Shape := ⟨1, ![4]⟩
abbrev S4x1 : Shape := ⟨2, ![4, 1]⟩
abbrev S4x16x1 : Shape := ⟨3, ![4, 16, 1]⟩
abbrev S4x16x2 : Shape := ⟨3, ![4, 16, 2]⟩
abbrev S8192 : Shape := ⟨1, ![8192]⟩
abbrev S1x8192 : Shape := ⟨2, ![1, 8192]⟩
abbrev S4x8192x3 : Shape := ⟨3, ![4, 8192, 3]⟩
abbrev S4x8192x131 : Shape := ⟨3, ![4, 8192, 131]⟩
abbrev S4x131 : Shape := ⟨2, ![4, 131]⟩
abbrev S4x1x131 : Shape := ⟨3, ![4, 1, 131]⟩
abbrev S1x1x131 : Shape := ⟨3, ![1, 1, 131]⟩
abbrev S4x8192x16 : Shape := ⟨3, ![4, 8192, 16]⟩
abbrev S1x1x16 : Shape := ⟨3, ![1, 1, 16]⟩
abbrev S4x16x16 : Shape := ⟨3, ![4, 16, 16]⟩
abbrev S4x16x16x1 : Shape := ⟨4, ![4, 16, 16, 1]⟩
abbrev S1x1x1x1 : Shape := ⟨4, ![1, 1, 1, 1]⟩
abbrev S4x16x1024 : Shape := ⟨3, ![4, 16, 1024]⟩
abbrev S1x1x1024 : Shape := ⟨3, ![1, 1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S131x16, .f32⟩
  | .hbm, ⟨6, _⟩ => ⟨S16, .f32⟩
  | .hbm, ⟨7, _⟩ => ⟨S16x1024, .f32⟩
  | .hbm, ⟨8, _⟩ => ⟨S1024, .f32⟩
  | .hbm, ⟨9, _⟩ => ⟨S131, .f32⟩
  | .hbm, ⟨10, _⟩ => ⟨S131, .f32⟩
  | .hbm, ⟨11, _⟩ => ⟨S4x16, .i32⟩
  | .hbm, ⟨12, _⟩ => ⟨S4x8192x64, .f32⟩
  | .hbm, ⟨13, _⟩ => ⟨S1x1x64, .f32⟩
  | .hbm, ⟨14, _⟩ => ⟨S4x8192x64, .f32⟩
  | .hbm, ⟨15, _⟩ => ⟨S4x8192x64, .f32⟩
  | .hbm, ⟨16, _⟩ => ⟨S4x8192x64, .f32⟩
  | .hbm, ⟨17, _⟩ => ⟨S4x8192x1, .f32⟩
  | .hbm, ⟨18, _⟩ => ⟨S1x1x1, .f32⟩
  | .hbm, ⟨19, _⟩ => ⟨S4x8192x1, .f32⟩
  | .hbm, ⟨20, _⟩ => ⟨S4x8192x1, .f32⟩
  | .hbm, ⟨21, _⟩ => ⟨S4x8192, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S4, .i32⟩
  | .hbm, ⟨33, _⟩ => ⟨S4x1, .i32⟩
  | .hbm, ⟨34, _⟩ => ⟨S_, .i32⟩
  | .hbm, ⟨35, _⟩ => ⟨S4x1, .i32⟩
  | .hbm, ⟨36, _⟩ => ⟨S4x1, .i1⟩
  | .hbm, ⟨37, _⟩ => ⟨S_, .i32⟩
  | .hbm, ⟨38, _⟩ => ⟨S4x1, .i32⟩
  | .hbm, ⟨39, _⟩ => ⟨S4x1, .i32⟩
  | .hbm, ⟨40, _⟩ => ⟨S4x1, .i32⟩
  | .hbm, ⟨41, _⟩ => ⟨S_, .i32⟩
  | .hbm, ⟨42, _⟩ => ⟨S4x16, .i32⟩
  | .hbm, ⟨43, _⟩ => ⟨S4x16, .i1⟩
  | .hbm, ⟨44, _⟩ => ⟨S_, .i32⟩
  | .hbm, ⟨45, _⟩ => ⟨S4x16, .i32⟩
  | .hbm, ⟨46, _⟩ => ⟨S4x16, .i32⟩
  | .hbm, ⟨47, _⟩ => ⟨S4x16, .i32⟩
  | .hbm, ⟨48, _⟩ => ⟨S4x16, .i32⟩
  | .hbm, ⟨49, _⟩ => ⟨S4x16x1, .i32⟩
  | .hbm, ⟨50, _⟩ => ⟨S4x16x1, .i32⟩
  | .hbm, ⟨51, _⟩ => ⟨S4x16x2, .i32⟩
  | .hbm, ⟨52, _⟩ => ⟨S_, .f32⟩
  | .hbm, ⟨53, _⟩ => ⟨S4x16, .f32⟩
  | .hbm, ⟨54, _⟩ => ⟨S4x8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S4x8192, .f32⟩
  | .hbm, ⟨60, _⟩ => ⟨S_, .f32⟩
  | .hbm, ⟨61, _⟩ => ⟨S_, .f32⟩
  | .hbm, ⟨62, _⟩ => ⟨S4x8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S1x8192, .f32⟩
  | .hbm, ⟨68, _⟩ => ⟨S4x8192, .f32⟩
  | .hbm, ⟨69, _⟩ => ⟨S4x8192, .f32⟩
  | .hbm, ⟨70, _⟩ => ⟨S4x8192x1, .f32⟩
  | .hbm, ⟨71, _⟩ => ⟨S4x8192x1, .f32⟩
  | .hbm, ⟨72, _⟩ => ⟨S4x8192x1, .f32⟩
  | .hbm, ⟨73, _⟩ => ⟨S4x8192x3, .f32⟩
  | .hbm, ⟨74, _⟩ => ⟨S4x8192x131, .f32⟩
  | .hbm, ⟨75, _⟩ => ⟨S_, .f32⟩
  | .hbm, ⟨76, _⟩ => ⟨S4x131, .f32⟩
  | .hbm, ⟨77, _⟩ => ⟨S4x1x131, .f32⟩
  | .hbm, ⟨78, _⟩ => ⟨S_, .f32⟩
  | .hbm, ⟨79, _⟩ => ⟨S4x1x131, .f32⟩
  | .hbm, ⟨80, _⟩ => ⟨S4x1x131, .f32⟩
  | .hbm, ⟨81, _⟩ => ⟨S4x8192x131, .f32⟩
  | .hbm, ⟨82, _⟩ => ⟨S4x8192x131, .f32⟩
  | .hbm, ⟨83, _⟩ => ⟨S1x1x131, .f32⟩
  | .hbm, ⟨84, _⟩ => ⟨S4x8192x131, .f32⟩
  | .hbm, ⟨85, _⟩ => ⟨S4x8192x131, .f32⟩
  | .hbm, ⟨86, _⟩ => ⟨S1x1x131, .f32⟩
  | .hbm, ⟨87, _⟩ => ⟨S4x8192x131, .f32⟩
  | .hbm, ⟨88, _⟩ => ⟨S4x8192x131, .f32⟩
  | .hbm, ⟨89, _⟩ => ⟨S4x8192x16, .f32⟩
  | .hbm, ⟨90, _⟩ => ⟨S1x1x16, .f32⟩
  | .hbm, ⟨91, _⟩ => ⟨S4x8192x16, .f32⟩
  | .hbm, ⟨92, _⟩ => ⟨S4x8192x16, .f32⟩
  | .hbm, ⟨93, _⟩ => ⟨S4x16x1, .i32⟩
  | .hbm, ⟨94, _⟩ => ⟨S4x16x16, .i32⟩
  | .hbm, ⟨95, _⟩ => ⟨S_, .i32⟩
  | .hbm, ⟨96, _⟩ => ⟨S4x16x16, .i32⟩
  | .hbm, ⟨97, _⟩ => ⟨S4x16x16, .i1⟩
  | .hbm, ⟨98, _⟩ => ⟨S_, .i32⟩
  | .hbm, ⟨99, _⟩ => ⟨S4x16x16, .i32⟩
  | .hbm, ⟨100, _⟩ => ⟨S4x16x16, .i32⟩
  | .hbm, ⟨101, _⟩ => ⟨S4x16x16, .i32⟩
  | .hbm, ⟨102, _⟩ => ⟨S4x16x16x1, .i32⟩
  | .hbm, ⟨103, _⟩ => ⟨S1, .i32⟩
  | .hbm, ⟨104, _⟩ => ⟨S_, .i32⟩
  | .hbm, ⟨105, _⟩ => ⟨S4x16x16x1, .i32⟩
  | .hbm, ⟨106, _⟩ => ⟨S4x16x16x1, .i1⟩
  | .hbm, ⟨107, _⟩ => ⟨S1x1x1x1, .i32⟩
  | .hbm, ⟨108, _⟩ => ⟨S4x16x16x1, .i32⟩
  | .hbm, ⟨109, _⟩ => ⟨S4x16x16x1, .i1⟩
  | .hbm, ⟨110, _⟩ => ⟨S4x16x16x1, .i1⟩
  | .hbm, ⟨111, _⟩ => ⟨S_, .i1⟩
  | .hbm, ⟨112, _⟩ => ⟨S4x16x16, .i1⟩
  | .hbm, ⟨113, _⟩ => ⟨S4x16x16, .f32⟩
  | .hbm, ⟨114, _⟩ => ⟨S_, .f32⟩
  | .hbm, ⟨115, _⟩ => ⟨S4x16x16, .f32⟩
  | .hbm, ⟨116, _⟩ => ⟨S4x16x16, .f32⟩
  | .hbm, ⟨117, _⟩ => ⟨S4x16x1024, .f32⟩
  | .hbm, ⟨118, _⟩ => ⟨S1x1x1024, .f32⟩
  | .hbm, ⟨119, _⟩ => ⟨S4x16x1024, .f32⟩
  | .hbm, ⟨120, _⟩ => ⟨S4x16x1024, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call0_call0_cst : Ref sig .tc := ⟨.hbm, 60, rfl⟩
abbrev main_call0_call0_v0 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_c : Ref sig .tc := ⟨.hbm, 95, rfl⟩
abbrev main_call1_v0 : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_c_1 : Ref sig .tc := ⟨.hbm, 103, rfl⟩
abbrev main_call1_c_2 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_c_3 : Ref sig .tc := ⟨.hbm, 111, rfl⟩
abbrev main_call1_v12 : Ref sig .tc := ⟨.hbm, 112, rfl⟩
abbrev main_call1_v13 : Ref sig .tc := ⟨.hbm, 113, rfl⟩
abbrev main_call1_cst : Ref sig .tc := ⟨.hbm, 114, rfl⟩
abbrev main_call1_v14 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩

abbrev nD : Nat := 1
abbrev τ : Topo := Topo.v7x

variable {F : FTy → Type} [FloatOps F]
-- ==== Proof.Words.lean ====
/- What the two preconditions say of the integer argument, word by word: every word names a time step of the 8192, and
   (the second precondition) the sixteen words of one sample are pairwise different. -/
module

public import proofs.«01_k».proof.Defs
public import proofs.«01_k».proof.Proof.Gen.Pre_rows_named
public import proofs.«01_k».proof.Proof.Gen.Pre_rows_drawn
public import Idealize.ShloMosaic.Lib.ValueIdx
public import Idealize.ShloMosaic.Lib.IdealHost
public import Idealize.ShloMosaic.Lib.Pipeline.Value

@[expose] public section

namespace Cert.Words

open Idealize.ShloMosaic Idealize.ShloMosaic.ValueIdx Idealize.ShloMosaic.Pipeline

/-- The conjunction of two truth bits is the bit of the conjunction. -/
theorem andi_ofBool (p q : Bool) : IntOp.andi (BitVec.ofBool p) (BitVec.ofBool q) = BitVec.ofBool (p && q) := by
  cases p <;> cases q <;> decide
/-- The disjunction of two truth bits is the bit of the disjunction. -/
theorem ori_ofBool (p q : Bool) : IntOp.ori (BitVec.ofBool p) (BitVec.ofBool q) = BitVec.ofBool (p || q) := by
  cases p <;> cases q <;> decide
/-- A truth bit is set exactly when what it stands for is true. -/
theorem ofBool_eq_one (p : Bool) : (BitVec.ofBool p = 1#1) ↔ p = true := by cases p <;> decide

/-- A word that is at least 0 and below 8192 as a signed number is below 8192 as an unsigned one. -/
theorem lt_of_signed {w : BitVec 32} (hge : (0#32).sle w = true) (hlt : w.slt 8192#32 = true) : w.toNat < 8192 := by
  simp only [BitVec.sle, BitVec.slt, decide_eq_true_eq, BitVec.toInt, BitVec.toNat_ofNat] at hge hlt
  omega

variable {F : FTy → Type} [FloatOps F]

/-- The first precondition says that every word is below 8192. -/
theorem lt_of_named {a0 : FVec F Pre_rows_named.S4x8192x128 .f32} {a1 : FVec F Pre_rows_named.S128x64 .f32}
    {a2 : FVec F Pre_rows_named.S64 .f32} {a3 : FVec F Pre_rows_named.S64x1 .f32} {a4 : FVec F Pre_rows_named.S1 .f32}
    {a5 : FVec F Pre_rows_named.S131x16 .f32} {a6 : FVec F Pre_rows_named.S16 .f32}
    {a7 : FVec F Pre_rows_named.S16x1024 .f32} {a8 : FVec F Pre_rows_named.S1024 .f32}
    {a9 a10 : FVec F Pre_rows_named.S131 .f32} {w : IVec Pre_rows_named.S4x16 32}
    (h : Pre_rows_named.fn a0 a1 a2 a3 a4 a5 a6 a7 a8 a9 a10 w = fun _ => 1#1) (y : Pre_rows_named.S4x16.Idx) :
    (w y).toNat < 8192 := by
  have e := congrFun h y
  simp only [Pre_rows_named.fn, andi, cmpi, broadcastInDim, constantI, IntOp.cmpi, andi_ofBool, ofBool_eq_one,
    Bool.and_eq_true] at e
  exact lt_of_signed e.1 e.2

/-- The second precondition says that every word is below 8192, and that words at different places of one sample differ. -/
theorem of_drawn {a0 : FVec F Pre_rows_drawn.S4x8192x128 .f32} {a1 : FVec F Pre_rows_drawn.S128x64 .f32}
    {a2 : FVec F Pre_rows_drawn.S64 .f32} {a3 : FVec F Pre_rows_drawn.S64x1 .f32} {a4 : FVec F Pre_rows_drawn.S1 .f32}
    {a5 : FVec F Pre_rows_drawn.S131x16 .f32} {a6 : FVec F Pre_rows_drawn.S16 .f32}
    {a7 : FVec F Pre_rows_drawn.S16x1024 .f32} {a8 : FVec F Pre_rows_drawn.S1024 .f32}
    {a9 a10 : FVec F Pre_rows_drawn.S131 .f32} {w : IVec Pre_rows_drawn.S4x16 32}
    (h : Pre_rows_drawn.fn a0 a1 a2 a3 a4 a5 a6 a7 a8 a9 a10 w = fun _ => 1#1) (b : Fin 4) (j k : Fin 16) :
    (w (ix2 b j)).toNat < 8192 ∧ (w (ix2 b j) = w (ix2 b k) → j = k) := by
  have e := congrFun h (ix3 b j k)
  have hj (g) : broadcastInDim Pre_rows_drawn.S4x16x16 ![0, 1] g w (ix3 b j k) = w (ix2 b j) :=
    broadcastInDim_apply _ _ _ _ _ (by intro a; fin_cases a <;> rfl)
  have hk (g) : broadcastInDim Pre_rows_drawn.S4x16x16 ![0, 2] g w (ix3 b j k) = w (ix2 b k) :=
    broadcastInDim_apply _ _ _ _ _ (by intro a; fin_cases a <;> rfl)
  simp only [Pre_rows_drawn.fn, andi, ori, cmpi, hj, hk, iotaInDim_apply, IntOp.cmpi, andi_ofBool, ori_ofBool,
    ofBool_eq_one, Bool.and_eq_true, Bool.or_eq_true] at e
  simp only [broadcastInDim, constantI, bne_iff_ne, beq_iff_eq, ne_eq] at e
  refine ⟨lt_of_signed e.1.1 e.1.2, fun hw => ?_⟩
  have h2 := e.2.resolve_left (fun hn => hn hw)
  have h3 := congrArg BitVec.toNat h2
  simp only [BitVec.toNat_ofNat] at h3
  apply Fin.ext
  have := j.isLt
  have := k.isLt
  have e1 : ((ix3 b j k : Pre_rows_drawn.S4x16x16.Idx) 1).val = j.val := rfl
  have e2 : ((ix3 b j k : Pre_rows_drawn.S4x16x16.Idx) 2).val = k.val := rfl
  rw [e1, e2] at h3
  omega

end Cert.Words
-- ==== Proof.KernelIdealRows.lean ====
/- The side conditions the kernel's body assumes, for the kernel over extended reals: each of its sixteen dynamic row loads reads one word
   of the index array and loads that row of the block of `x`; the load is inside the block when the word is below 8192. -/
module

public import proofs.«01_k».proof.Proof.Words
public import proofs.«01_k».proof.Proof.Gen.KernelIdeal.Frame

@[expose] public section

noncomputable section

namespace Cert.KernelIdeal.Rows

open Cert.KernelIdeal Cert.KernelIdeal.Gen
open Idealize.ShloMosaic Idealize.ShloMosaic.TcCoe

variable {F : FTy → Type} [FloatOps F]
variable (m : (ℓ : Loc nD τ sig) → Buf (Elt F) ℓ)

/-- The array of the scalar window of indices, as the kernel finds it: the index argument, reshaped. -/
theorem V_words (c : Dev nD) : V m c main_v8
    = shapeCast S4x1x16 (m ((c : Thread nD τ).loc main_arg11)) shapeCasts_S4x16_S4x1x16 := by
  dsimp only [V, V0, hostOps0, List.flatten_cons, List.flatten_nil, List.append_nil, List.cons_append, List.nil_append]
  after_results_simp <;> rfl

/-- A row named by a word below 8192 lies inside the block of `x`. -/
theorem row_inside (v : BitVec 32) (h : v.toNat < 8192) :
    ∀ a : Fin 3, (![0, v.toNat, 0] : Fin 3 → Nat) a + S1x1x128.size a ≤ S1x8192x128.size a := by
  intro a
  fin_cases a
  · exact Nat.le_refl 1
  · show v.toNat + 1 ≤ 8192
    omega
  · exact Nat.le_refl 128

/-- The words below 8192 give every side condition of the body, at every grid point. -/
theorem hyps_of_lt (h : ∀ (c : Dev nD) (y : S4x16.Idx), (m ((c : Thread nD τ).loc main_arg11) y).toNat < 8192) :
    Hyps m := by
  intro c t
  have bound : ∀ y : S4x1x16.Idx, (V m c main_v8 y).toNat < 8192 := by
    intro y
    rw [V_words]
    unfold shapeCast
    exact h c _
  have rd : ∀ i, (iblk m c 12 t i).toNat < 8192 := fun i => by
    unfold iblk; rw [View.read_apply, cast_eq]; exact bound _
  refine ⟨?_, ?_, ?_, ?_, ?_, ?_, ?_, ?_, ?_, ?_, ?_, ?_, ?_, ?_, ?_, ?_⟩ <;>
    (simp only [View.readAt_apply, Memref.IsWhole.read_unread]; exact row_inside _ (rd _))

end Cert.KernelIdeal.Rows
-- ==== Proof.KernelArgs.lean ====
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.KernelIdealRows

@[expose] public section
set_option maxRecDepth 16384
noncomputable section

/-! # The blocks the kernel reads, as parts of the arguments

Grid step `t` works on sample `t`. Of the sequences and of the index words it reads the sample's own part, of the
weights all of them. -/

namespace Cert.KernelIdeal.Args

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD) (t : Fin cfg0.N)

/-- The sample of a grid step. -/
def sample : Fin 4 := ⟨t.val, t.isLt⟩

/-- Where each window's block starts, in blocks. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0, 0] ∧ win0_12.index t = ![t.val, 0, 0] ∧ win0_13.index t = ![t.val, 0, 0]
    ∧ win0_14.index t = ![t.val, 0, 0] := by decide +kernel

/-- The first bias, as the kernel finds it: the argument, reshaped. -/
theorem found_arg2 : V m c main_v0 = shapeCast S1x64 (m ((c : Thread nD τ).loc main_arg2)) shapeCasts_S64_S1x64 := by
  dsimp only [V, V0, hostOps0, List.flatten_cons, List.flatten_nil, List.append_nil, List.cons_append, List.nil_append]
  after_results_simp <;> rfl

/-- The second weight, as the kernel finds it: the argument, reshaped. -/
theorem found_arg3 : V m c main_v1 = shapeCast S1x64 (m ((c : Thread nD τ).loc main_arg3)) shapeCasts_S64x1_S1x64 := by
  dsimp only [V, V0, hostOps0, List.flatten_cons, List.flatten_nil, List.append_nil, List.cons_append, List.nil_append]
  after_results_simp <;> rfl

/-- The second bias, as the kernel finds it: the argument, reshaped. -/
theorem found_arg4 : V m c main_v2 = shapeCast S1x1 (m ((c : Thread nD τ).loc main_arg4)) shapeCasts_S1_S1x1 := by
  dsimp only [V, V0, hostOps0, List.flatten_cons, List.flatten_nil, List.append_nil, List.cons_append, List.nil_append]
  after_results_simp <;> rfl

/-- The lift bias, as the kernel finds it: the argument, reshaped. -/
theorem found_arg6 : V m c main_v3 = shapeCast S1x16 (m ((c : Thread nD τ).loc main_arg6)) shapeCasts_S16_S1x16 := by
  dsimp only [V, V0, hostOps0, List.flatten_cons, List.flatten_nil, List.append_nil, List.cons_append, List.nil_append]
  after_results_simp <;> rfl

/-- The projection bias, as the kernel finds it: the argument, reshaped. -/
theorem found_arg8 : V m c main_v4 = shapeCast S1x1024 (m ((c : Thread nD τ).loc main_arg8)) shapeCasts_S1024_S1x1024 := by
  dsimp only [V, V0, hostOps0, List.flatten_cons, List.flatten_nil, List.append_nil, List.cons_append, List.nil_append]
  after_results_simp <;> rfl

/-- The normaliser means, as the kernel finds it: the argument, reshaped. -/
theorem found_arg9 : V m c main_v5 = shapeCast S1x131 (m ((c : Thread nD τ).loc main_arg9)) shapeCasts_S131_S1x131 := by
  dsimp only [V, V0, hostOps0, List.flatten_cons, List.flatten_nil, List.append_nil, List.cons_append, List.nil_append]
  after_results_simp <;> rfl

/-- The normaliser deviations, as the kernel finds it: the argument, reshaped. -/
theorem found_arg10 : V m c main_v6 = shapeCast S1x131 (m ((c : Thread nD τ).loc main_arg10)) shapeCasts_S131_S1x131 := by
  dsimp only [V, V0, hostOps0, List.flatten_cons, List.flatten_nil, List.append_nil, List.cons_append, List.nil_append]
  after_results_simp <;> rfl

/-- The column of index words, as the kernel finds it: the argument, reshaped. -/
theorem found_arg11 : V m c main_v7 = shapeCast S4x16x1 (m ((c : Thread nD τ).loc main_arg11)) shapeCasts_S4x16_S4x16x1 := by
  dsimp only [V, V0, hostOps0, List.flatten_cons, List.flatten_nil, List.append_nil, List.cons_append, List.nil_append]
  after_results_simp <;> rfl

/-- The sequence of the sample. -/
theorem block_0 (s : Fin 8192) (d : Fin 128) : (iblk m c 0 t : Vec Ideal S1x8192x128 .f32) (ix3 0 s d)
    = m ((c : Thread nD τ).loc main_arg0) (ix3 (sample t) s d) := by
  unfold sample
  blk_ext [iblk, V_main_arg0, idx t]

/-- The first weight. -/
theorem block_1 (a : Fin 128) (b : Fin 64) : (iblk m c 1 t : Vec Ideal S128x64 .f32) (ix2 a b)
    = m ((c : Thread nD τ).loc main_arg1) (ix2 a b) := by
  blk_ext [iblk, V_main_arg1, idx t]

/-- The first bias. -/
theorem block_2 (a : Fin 64) : (iblk m c 2 t : Vec Ideal S1x64 .f32) (ix2 0 a)
    = m ((c : Thread nD τ).loc main_arg2) (ix1 a) := by
  have e : (iblk m c 2 t : Vec Ideal S1x64 .f32) (ix2 0 a) = V m c main_v0 (ix2 0 a) := by
    blk_ext [iblk, idx t]
  rw [e, found_arg2]
  pointwise

/-- The second weight. -/
theorem block_3 (a : Fin 64) : (iblk m c 3 t : Vec Ideal S1x64 .f32) (ix2 0 a)
    = m ((c : Thread nD τ).loc main_arg3) (ix2 a 0) := by
  have e : (iblk m c 3 t : Vec Ideal S1x64 .f32) (ix2 0 a) = V m c main_v1 (ix2 0 a) := by
    blk_ext [iblk, idx t]
  rw [e, found_arg3]
  pointwise

/-- The second bias. -/
theorem block_4  : (iblk m c 4 t : Vec Ideal S1x1 .f32) (ix2 0 0)
    = m ((c : Thread nD τ).loc main_arg4) (ix1 0) := by
  have e : (iblk m c 4 t : Vec Ideal S1x1 .f32) (ix2 0 0) = V m c main_v2 (ix2 0 0) := by
    blk_ext [iblk, idx t]
  rw [e, found_arg4]
  pointwise

/-- The lift matrix. -/
theorem block_5 (a : Fin 131) (b : Fin 16) : (iblk m c 5 t : Vec Ideal S131x16 .f32) (ix2 a b)
    = m ((c : Thread nD τ).loc main_arg5) (ix2 a b) := by
  blk_ext [iblk, V_main_arg5, idx t]

/-- The lift bias. -/
theorem block_6 (a : Fin 16) : (iblk m c 6 t : Vec Ideal S1x16 .f32) (ix2 0 a)
    = m ((c : Thread nD τ).loc main_arg6) (ix1 a) := by
  have e : (iblk m c 6 t : Vec Ideal S1x16 .f32) (ix2 0 a) = V m c main_v3 (ix2 0 a) := by
    blk_ext [iblk, idx t]
  rw [e, found_arg6]
  pointwise

/-- The projection matrix. -/
theorem block_7 (a : Fin 16) (b : Fin 1024) : (iblk m c 7 t : Vec Ideal S16x1024 .f32) (ix2 a b)
    = m ((c : Thread nD τ).loc main_arg7) (ix2 a b) := by
  blk_ext [iblk, V_main_arg7, idx t]

/-- The projection bias. -/
theorem block_8 (a : Fin 1024) : (iblk m c 8 t : Vec Ideal S1x1024 .f32) (ix2 0 a)
    = m ((c : Thread nD τ).loc main_arg8) (ix1 a) := by
  have e : (iblk m c 8 t : Vec Ideal S1x1024 .f32) (ix2 0 a) = V m c main_v4 (ix2 0 a) := by
    blk_ext [iblk, idx t]
  rw [e, found_arg8]
  pointwise

/-- The means of the normaliser. -/
theorem block_9 (a : Fin 131) : (iblk m c 9 t : Vec Ideal S1x131 .f32) (ix2 0 a)
    = m ((c : Thread nD τ).loc main_arg9) (ix1 a) := by
  have e : (iblk m c 9 t : Vec Ideal S1x131 .f32) (ix2 0 a) = V m c main_v5 (ix2 0 a) := by
    blk_ext [iblk, idx t]
  rw [e, found_arg9]
  pointwise

/-- The deviations of the normaliser. -/
theorem block_10 (a : Fin 131) : (iblk m c 10 t : Vec Ideal S1x131 .f32) (ix2 0 a)
    = m ((c : Thread nD τ).loc main_arg10) (ix1 a) := by
  have e : (iblk m c 10 t : Vec Ideal S1x131 .f32) (ix2 0 a) = V m c main_v6 (ix2 0 a) := by
    blk_ext [iblk, idx t]
  rw [e, found_arg10]
  pointwise

/-- The index words of the sample, as a column. -/
theorem block_11 (a : Fin 16) : (iblk m c 11 t : Vec Ideal S1x16x1 .i32) (ix3 0 a 0)
    = m ((c : Thread nD τ).loc main_arg11) (ix2 (sample t) a) := by
  have e : (iblk m c 11 t : Vec Ideal S1x16x1 .i32) (ix3 0 a 0) = V m c main_v7 (ix3 (sample t) a 0) := by
    unfold sample
    blk_ext [iblk, idx t]
  rw [e, found_arg11]
  pointwise

/-- The index words of the sample, as scalars. -/
theorem block_12 (a : Fin 16) : (iblk m c 12 t : Vec Ideal S1x1x16 .i32) (ix3 0 0 a)
    = m ((c : Thread nD τ).loc main_arg11) (ix2 (sample t) a) := by
  have e : (iblk m c 12 t : Vec Ideal S1x1x16 .i32) (ix3 0 0 a) = V m c main_v8 (ix3 (sample t) 0 a) := by
    unfold sample
    blk_ext [iblk, idx t]
  rw [e, Rows.V_words]
  pointwise

end Cert.KernelIdeal.Args
-- ==== Proof.Spec.lean ====
module

public import Idealize.ShloMosaic.PureOps.Ideal

@[expose] public section
noncomputable section

/-! # One sample of the encoder, in plain formulas

A sample is a sequence of 8192 steps with 128 numbers each, and a list of 16 steps that were chosen from it.
Everything is over the extended reals. -/

namespace Cert.Spec

open Idealize.ShloMosaic

/-- A step number as an extended real. -/
def num (t : Fin 8192) : EReal := (((t.val : ℕ) : ℝ) : EReal)

/-- How salient step `t` is: a hidden layer of 64 tanh units, an output unit, and the logistic function. -/
def sal (x : Fin 8192 → Fin 128 → EReal) (W1 : Fin 128 → Fin 64 → EReal) (b1 W2 : Fin 64 → EReal) (b2 : EReal)
    (t : Fin 8192) : EReal :=
  Ideal.div 1 (1 + Ideal.exp (-((∑ j, Ideal.tanh ((∑ d, x t d * W1 d j) + b1 j) * W2 j) + b2)))

/-- The mean saliency of the steps up to and including `t`. -/
def cum (s : Fin 8192 → EReal) (t : Fin 8192) : EReal :=
  Ideal.div (∑ u ∈ Finset.univ.filter (· ≤ t), s u) (num t + 1)

/-- The step number as a share of the length. -/
def share (t : Fin 8192) : EReal := Ideal.div (num t) ((8192 : ℝ) : EReal)

/-- The 131 features of step `t`: its own 128 numbers, its saliency, its share of the length, the mean saliency. -/
def dense (x : Fin 8192 → Fin 128 → EReal) (s : Fin 8192 → EReal) (t : Fin 8192) (a : Fin 131) : EReal :=
  if h : a.val < 128 then x t ⟨a.val, h⟩
  else if a.val = 128 then s t
  else if a.val = 129 then share t
  else cum s t

/-- The mean of feature `a` over all steps. -/
def mean (x : Fin 8192 → Fin 128 → EReal) (s : Fin 8192 → EReal) (a : Fin 131) : EReal :=
  Ideal.div (∑ t, dense x s t a) ((8192 : ℝ) : EReal)

/-- Unit `c` of the lift of step `t`: the features less their means, normalised, times the lift matrix. -/
def lift (x : Fin 8192 → Fin 128 → EReal) (s : Fin 8192 → EReal) (mu sg : Fin 131 → EReal)
    (WL : Fin 131 → Fin 16 → EReal) (bL : Fin 16 → EReal) (t : Fin 8192) (c : Fin 16) : EReal :=
  (∑ a, Ideal.div (dense x s t a - mean x s a - mu a) (sg a) * WL a c) + bL c

/-- Entry `d` of the token of step `t`. -/
def token (x : Fin 8192 → Fin 128 → EReal) (s : Fin 8192 → EReal) (mu sg : Fin 131 → EReal)
    (WL : Fin 131 → Fin 16 → EReal) (bL : Fin 16 → EReal) (WP : Fin 16 → Fin 1024 → EReal) (bP : Fin 1024 → EReal)
    (t : Fin 8192) (d : Fin 1024) : EReal :=
  (∑ c, lift x s mu sg WL bL t c * WP c d) + bP d

/-- The indicator of the chosen steps. -/
def chosen (k : Fin 16 → Fin 8192) (t : Fin 8192) : EReal := by
  classical exact if ∃ i, k i = t then 1 else 0

/-- The step that an index word names. -/
def step (w : BitVec 32) : Fin 8192 := Fin.ofNat 8192 w.toNat

/-- A word below 8192 names the step of its own value. -/
theorem step_val {w : BitVec 32} (h : w.toNat < 8192) : (step w).val = w.toNat := Nat.mod_eq_of_lt h

end Cert.Spec
-- ==== Proof.Grid.lean ====
module

public import proofs.«01_k».proof.Proof.Spec
public import Idealize.ShloMosaic.Lib.WordArith

@[expose] public section
noncomputable section

/-! # The steps as a grid of 64 rows and 128 columns

The kernel keeps one number per step in a table of 64 rows and 128 columns, step `128 r + c` in row `r` and column `c`.
Here: sums over the table, the running sum by rows and columns, and how a product with two indicator rows picks one
entry. -/

namespace Cert.Grid

open Idealize.ShloMosaic

/-- The step in row `r` and column `c`. -/
def pos (r : Fin 64) (c : Fin 128) : Fin 8192 := ⟨r.val * 128 + c.val, by omega⟩

/-- The row of a step. -/
def row (t : Fin 8192) : Fin 64 := ⟨t.val / 128, by omega⟩

/-- The column of a step. -/
def col (t : Fin 8192) : Fin 128 := ⟨t.val % 128, by omega⟩

/-- Every step stands in its row and column. -/
theorem pos_row_col (t : Fin 8192) : pos (row t) (col t) = t := Fin.ext (by simp only [pos, row, col]; omega)

/-- A step is determined by its row and column. -/
theorem pos_eq_iff (r : Fin 64) (c : Fin 128) (t : Fin 8192) : pos r c = t ↔ r = row t ∧ c = col t := by
  constructor
  · rintro rfl
    exact ⟨Fin.ext (by simp only [pos, row]; omega), Fin.ext (by simp only [pos, col]; omega)⟩
  · rintro ⟨rfl, rfl⟩
    exact pos_row_col t

/-- The sum over the table, row by row, is the sum over all steps. -/
theorem sum_table (f : Fin 8192 → EReal) : (∑ r, ∑ c, f (pos r c)) = ∑ t, f t := by
  rw [← Fintype.sum_prod_type' (f := fun r c => f (pos r c))]
  refine Fintype.sum_equiv (finProdFinEquiv (m := 64) (n := 128)) _ _ fun p => ?_
  refine congrArg f (Fin.ext ?_)
  simp only [pos, finProdFinEquiv_apply_val]
  omega

/-- The order of the steps by row and column. -/
theorem pos_le_iff (x r : Fin 64) (y c : Fin 128) : pos x y ≤ pos r c ↔ x < r ∨ (x = r ∧ y ≤ c) := by
  simp only [pos, Fin.le_def, Fin.lt_def, Fin.ext_iff]
  omega

/-- The running sum up to row `r` and column `c`: the columns up to `c` of row `r`, and all of the rows before. -/
theorem running (f : Fin 8192 → EReal) (r : Fin 64) (c : Fin 128) :
    (∑ y, if y ≤ c then f (pos r y) else 0) + (∑ x, if x < r then ∑ y, f (pos x y) else 0)
      = ∑ u ∈ Finset.univ.filter (· ≤ pos r c), f u := by
  rw [Finset.sum_filter, ← sum_table, add_comm]
  have split : ∀ x : Fin 64, (∑ y, if pos x y ≤ pos r c then f (pos x y) else 0)
      = (if x < r then ∑ y, f (pos x y) else 0) + (if x = r then ∑ y, (if y ≤ c then f (pos x y) else 0) else 0) := by
    intro x
    by_cases h1 : x < r
    · rw [if_pos h1, if_neg (ne_of_lt h1), add_zero]
      exact Finset.sum_congr rfl fun y _ => if_pos ((pos_le_iff x r y c).2 (.inl h1))
    · rw [if_neg h1, zero_add]
      by_cases h2 : x = r
      · rw [if_pos h2]
        subst h2
        refine Finset.sum_congr rfl fun y _ => if_congr ?_ rfl rfl
        rw [pos_le_iff]
        exact ⟨fun h => h.elim (fun h => absurd h h1) (·.2), fun h => .inr ⟨rfl, h⟩⟩
      · rw [if_neg h2]
        refine Finset.sum_eq_zero fun y _ => if_neg ?_
        rw [pos_le_iff]
        exact fun h => h.elim h1 fun h => h2 h.1
  rw [Finset.sum_congr rfl fun x _ => split x, Finset.sum_add_distrib]
  congr 1
  rw [Finset.sum_ite_eq' Finset.univ r, if_pos (Finset.mem_univ r)]

/-- Taking row `row t` by an indicator over the rows and column `col t` by an indicator over the columns gives the
    entry of step `t`. -/
theorem pick (f : Fin 8192 → EReal) (t : Fin 8192) :
    (∑ c, (∑ r, (if r = row t then (1 : EReal) else 0) * f (pos r c)) * (if c = col t then 1 else 0)) = f t := by
  have inner : ∀ c, (∑ r, (if r = row t then (1 : EReal) else 0) * f (pos r c)) = f (pos (row t) c) := by
    intro c
    rw [Finset.sum_eq_single (row t) (fun r _ h => by rw [if_neg h, zero_mul])
      (fun h => absurd (Finset.mem_univ _) h), if_pos rfl, one_mul]
  rw [Finset.sum_congr rfl fun c _ => by rw [inner c],
    Finset.sum_eq_single (col t) (fun c _ h => by rw [if_neg h, mul_zero])
      (fun h => absurd (Finset.mem_univ _) h), if_pos rfl, mul_one, pos_row_col]

/-- Indicators of sixteen different steps, each a product of a row's and a column's, add up to the indicator of
    the chosen steps. -/
theorem mark (k : Fin 16 → Fin 8192) (hk : Function.Injective k) (r : Fin 64) (c : Fin 128) :
    (∑ i, (if r = row (k i) then (1 : EReal) else 0) * (if c = col (k i) then 1 else 0)) = Spec.chosen k (pos r c) := by
  have term : ∀ i, (if r = row (k i) then (1 : EReal) else 0) * (if c = col (k i) then 1 else 0)
      = if k i = pos r c then 1 else 0 := by
    intro i
    have h := pos_eq_iff r c (k i)
    by_cases h1 : r = row (k i) <;> by_cases h2 : c = col (k i)
    · rw [if_pos h1, if_pos h2, if_pos (h.2 ⟨h1, h2⟩).symm, mul_one]
    · rw [if_neg h2, mul_zero, if_neg fun e => h2 (h.1 e.symm).2]
    · rw [if_neg h1, zero_mul, if_neg fun e => h1 (h.1 e.symm).1]
    · rw [if_neg h1, zero_mul, if_neg fun e => h1 (h.1 e.symm).1]
  rw [Finset.sum_congr rfl fun i _ => term i]
  unfold Spec.chosen
  by_cases h : ∃ i, k i = pos r c
  · rw [if_pos h]
    obtain ⟨i, hi⟩ := h
    rw [Finset.sum_eq_single i (fun j _ hj => if_neg fun e => hj (hk (e.trans hi.symm)))
      (fun h => absurd (Finset.mem_univ _) h), if_pos hi]
  · rw [if_neg h]
    exact Finset.sum_eq_zero fun i _ => if_neg fun e => h ⟨i, e⟩

end Cert.Grid
-- ==== Proof.WordOps.lean ====
module

public import proofs.«01_k».proof.Proof.Grid

@[expose] public section
noncomputable section

/-! # The kernel's and the reference's arithmetic on words

All words here are step numbers below 8192 or table coordinates, so signed and unsigned readings agree. -/

namespace Cert.WordOps

open Idealize.ShloMosaic Idealize.ShloMosaic.WordArith

/-- A word below 2³¹ has the same value signed and unsigned. -/
theorem toInt_small {w : BitVec 32} (h : w.toNat < 2 ^ 31) : w.toInt = (w.toNat : ℤ) :=
  BitVec.toInt_eq_toNat_of_lt (by omega)

/-- A one-bit word widened and read as a number: one for true, zero for false. -/
theorem num_bit (p : Bool) : (FloatOps.sitofp (F := Ideal) .f32 (BitVec.setWidth 32 (BitVec.ofBool p)) : EReal)
    = if p then 1 else 0 := by
  show ((((BitVec.setWidth 32 (BitVec.ofBool p)).toInt : ℝ)) : EReal) = _
  cases p <;> simp

/-- A number below 2³¹ written as a word and read as a number is itself. -/
theorem num_ofNat (n : ℕ) (h : n < 2 ^ 31) : (FloatOps.sitofp (F := Ideal) .f32 (BitVec.ofNat 32 n) : EReal)
    = ((n : ℝ) : EReal) := by
  show ((((BitVec.ofNat 32 n).toInt : ℝ)) : EReal) = _
  rw [toInt_ofNat_small n h]
  norm_cast

/-- A word naming a step reads as that step's number. -/
theorem num_step {w : BitVec 32} (h : w.toNat < 8192) : (FloatOps.sitofp (F := Ideal) .f32 w : EReal)
    = Spec.num (Spec.step w) := by
  show (((w.toInt : ℝ)) : EReal) = _
  rw [toInt_small (by omega)]
  unfold Spec.num
  rw [Spec.step_val h]
  norm_cast

/-- Signed order of two small numbers written as words. -/
theorem sle_ofNat (a b : ℕ) (ha : a < 2 ^ 31) (hb : b < 2 ^ 31) :
    (BitVec.ofNat 32 a).sle (BitVec.ofNat 32 b) = decide (a ≤ b) := by
  rw [BitVec.sle_eq_decide, toInt_ofNat_small a ha, toInt_ofNat_small b hb]
  norm_cast

/-- Strict signed order of two small numbers written as words. -/
theorem slt_ofNat (a b : ℕ) (ha : a < 2 ^ 31) (hb : b < 2 ^ 31) :
    (BitVec.ofNat 32 a).slt (BitVec.ofNat 32 b) = decide (a < b) := by
  rw [BitVec.slt_eq_decide, toInt_ofNat_small a ha, toInt_ofNat_small b hb]
  norm_cast

/-- Equality of two small numbers written as words. -/
theorem beq_ofNat (a b : ℕ) (ha : a < 2 ^ 31) (hb : b < 2 ^ 31) :
    (BitVec.ofNat 32 a == BitVec.ofNat 32 b) = decide (a = b) := by
  rw [Bool.eq_iff_iff, beq_iff_eq, decide_eq_true_iff]
  constructor
  · intro h
    have := congrArg BitVec.toNat h
    rwa [toNat_ofNat_of_lt a (by omega), toNat_ofNat_of_lt b (by omega)] at this
  · rintro rfl; rfl

/-- No word below 8192 is negative. -/
theorem slt_zero {w : BitVec 32} (h : w.toNat < 8192) : w.slt 0#32 = false := by
  rw [BitVec.slt_eq_decide, toInt_small (by omega)]
  simp

/-- The machine's signed quotient by 128 of a word below 8192. -/
theorem quot {w : BitVec 32} (h : w.toNat < 8192) : IntOp.divsi .vector w 128#32 = BitVec.ofNat 32 (w.toNat / 128) := by
  unfold IntOp.divsi
  rw [if_neg (by simp [IntOp.SDivCorner])]
  have h1 : w.msb = false := by rw [BitVec.msb_eq_false_iff_two_mul_lt]; omega
  rw [BitVec.sdiv_eq, h1]
  refine BitVec.eq_of_toNat_eq ?_
  have h2 : (128#32).msb = false := by decide
  simp only [h2, BitVec.udiv_eq, BitVec.toNat_udiv, BitVec.toNat_ofNat, (by decide : 128 % 2 ^ 32 = 128)]
  omega

/-- The machine's signed remainder by 128 of a word below 8192. -/
theorem rem {w : BitVec 32} (h : w.toNat < 8192) : IntOp.remsi .vector w 128#32 = BitVec.ofNat 32 (w.toNat % 128) := by
  unfold IntOp.remsi
  rw [if_neg (by simp [IntOp.SDivCorner])]
  have h1 : w.msb = false := by rw [BitVec.msb_eq_false_iff_two_mul_lt]; omega
  rw [BitVec.srem_eq, h1]
  refine BitVec.eq_of_toNat_eq ?_
  have h2 : (128#32).msb = false := by decide
  simp only [h2, BitVec.umod_eq, BitVec.toNat_umod, BitVec.toNat_ofNat, (by decide : 128 % 2 ^ 32 = 128)]
  omega

/-- The row number of a step, from the quotient and its correction for negative numbers, which never applies. -/
theorem row_word {w : BitVec 32} (h : w.toNat < 8192) :
    Scalar.select
      (IntOp.andi
        (IntOp.cmpi .ne
          (IntOp.subi (BitVec.setWidth 32 (IntOp.cmpi .sgt w 0#32)) (BitVec.setWidth 32 (IntOp.cmpi .slt w 0#32)))
          (Scalar.subi (Scalar.extui (Scalar.cmpi .sgt 128#32 0#32)) (Scalar.extui (Scalar.cmpi .slt 128#32 0#32))))
        (IntOp.cmpi .ne (IntOp.remsi .vector w 128#32) 0#32))
      (IntOp.subi (IntOp.divsi .vector w 128#32) 1#32)
      (IntOp.divsi .vector w 128#32) = BitVec.ofNat 32 (Grid.row (Spec.step w)).val := by
  have hd : (Grid.row (Spec.step w)).val = w.toNat / 128 := by simp only [Grid.row, Spec.step_val h]
  rw [quot h, rem h, hd]
  have hc : IntOp.andi
        (IntOp.cmpi .ne
          (IntOp.subi (BitVec.setWidth 32 (IntOp.cmpi .sgt w 0#32)) (BitVec.setWidth 32 (IntOp.cmpi .slt w 0#32)))
          (Scalar.subi (Scalar.extui (Scalar.cmpi .sgt 128#32 0#32)) (Scalar.extui (Scalar.cmpi .slt 128#32 0#32))))
        (IntOp.cmpi .ne (BitVec.ofNat 32 (w.toNat % 128)) 0#32) = 0#1 := by
    by_cases hw : w = 0#32
    · subst hw; decide
    · have h0 : w.toNat ≠ 0 := fun e => hw (BitVec.eq_of_toNat_eq e)
      have hs : (0#32 : BitVec 32).slt w = true := by
        rw [BitVec.slt_eq_decide, toInt_small (w := w) (by omega)]
        simp; omega
      have e1 : IntOp.cmpi .sgt w 0#32 = 1#1 := by simp [IntOp.cmpi, hs]
      have e2 : IntOp.cmpi .slt w 0#32 = 0#1 := by simp [IntOp.cmpi, slt_zero h]
      rw [e1, e2]
      have e3 : IntOp.cmpi .ne
          (IntOp.subi (BitVec.setWidth 32 (1#1 : BitVec 1)) (BitVec.setWidth 32 (0#1 : BitVec 1)))
          (Scalar.subi (Scalar.extui (Scalar.cmpi .sgt 128#32 0#32)) (Scalar.extui (Scalar.cmpi .slt 128#32 0#32))) = 0#1 := by
        decide
      rw [e3]
      exact BitVec.zero_and
  rw [hc]
  rfl

/-- The column number of a step, from the remainder and its correction for negative numbers, which never applies. -/
theorem col_word {w : BitVec 32} (h : w.toNat < 8192) :
    Scalar.select
      (IntOp.andi
        (IntOp.xori
          (IntOp.cmpi .slt
            (IntOp.remsi .vector w (Scalar.select (Scalar.cmpi .eq 128#32 0#32) 1#32 128#32)) 0#32)
          (Scalar.cmpi .slt (Scalar.select (Scalar.cmpi .eq 128#32 0#32) 1#32 128#32) 0#32))
        (IntOp.cmpi .ne
          (IntOp.remsi .vector w (Scalar.select (Scalar.cmpi .eq 128#32 0#32) 1#32 128#32)) 0#32))
      (IntOp.addi
        (IntOp.remsi .vector w (Scalar.select (Scalar.cmpi .eq 128#32 0#32) 1#32 128#32))
        (Scalar.select (Scalar.cmpi .eq 128#32 0#32) 1#32 128#32))
      (IntOp.remsi .vector w (Scalar.select (Scalar.cmpi .eq 128#32 0#32) 1#32 128#32))
      = BitVec.ofNat 32 (Grid.col (Spec.step w)).val := by
  have hsel : (Scalar.select (Scalar.cmpi .eq 128#32 0#32) 1#32 128#32 : BitVec 32) = 128#32 := by decide
  have hd : (Grid.col (Spec.step w)).val = w.toNat % 128 := by simp only [Grid.col, Spec.step_val h]
  rw [hsel, rem h, hd]
  have hs : IntOp.cmpi .slt (BitVec.ofNat 32 (w.toNat % 128)) 0#32 = 0#1 := by
    have := slt_ofNat (w.toNat % 128) 0 (by omega) (by omega)
    simp [IntOp.cmpi, this]
  have hx : IntOp.xori (0#1 : BitVec 1) (Scalar.cmpi .slt 128#32 0#32) = 0#1 := by decide
  rw [hs, hx]
  have ha : ∀ b : BitVec 1, IntOp.andi 0#1 b = 0#1 := by decide
  rw [ha]
  rfl

end Cert.WordOps
-- ==== Proof.Consts.lean ====
module

public import Idealize.ShloMosaic.PureOps.Ideal
public import Idealize.ShloMosaic.Lib.IdealHost

@[expose] public section
noncomputable section

/-! # The constants of the kernel and of the reference, as real numbers, and sums of real numbers -/

namespace Cert.Consts

open Idealize.ShloMosaic

/-- The word the kernel multiplies its sums with denotes the inverse of the number of steps, 1/8192. -/
theorem inv_steps : (Ideal.ofBits .f32 0x39000000#32 : EReal) = (((8192 : ℝ)⁻¹ : ℝ) : EReal) := by
  simp [Ideal.ofBits, Ideal.ieee, -EReal.coe_mul]
  norm_num

/-- The word the reference divides its sums by denotes the number of steps, 8192. -/
theorem steps : (Ideal.ofBits .f32 0x46000000#32 : EReal) = ((8192 : ℝ) : EReal) := by
  simp [Ideal.ofBits, Ideal.ieee, -EReal.coe_mul]
  norm_num

/-- The word the kernel takes for the mean of the normalised step number denotes 8191/16384. -/
theorem mean_step : (Ideal.ofBits .f32 0x3EFFF800#32 : EReal) = ((8191 / 16384 : ℝ) : EReal) := by
  simp [Ideal.ofBits, Ideal.ieee, -EReal.coe_mul]
  norm_num

/-- Dividing by the number of steps is multiplying with its inverse. -/
theorem div_steps (x : EReal) : Ideal.div x ((8192 : ℝ) : EReal) = x * (((8192 : ℝ)⁻¹ : ℝ) : EReal) := by
  unfold Ideal.div
  rw [if_neg (by norm_num), EReal.coe_inv]

/-- A finite sum of real numbers is the same taken among the extended reals. -/
theorem sum_coe {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.Consts
-- ==== Proof.KernelTables.lean ====
module

public import proofs.«01_k».proof.Proof.Gen.KernelIdeal.Skeleton
public import Idealize.ShloMosaic.Lib.Pointwise
public import proofs.«01_k».proof.Proof.WordOps
public import proofs.«01_k».proof.Proof.Consts

@[expose] public section
set_option maxRecDepth 16384
noncomputable section

/-! # The kernel's tables for one sample

What the body computes from the sample before it looks at the chosen steps: the saliency of every step, the mean
saliency so far, and the mean of each of the 131 features. -/

namespace Cert.KernelIdeal.Tables

open Cert.KernelIdeal Cert.KernelIdeal.Gen
open Idealize.ShloMosaic Idealize.ShloMosaic.Tactic
open Cert.Grid Cert.WordOps

/-- The saliency of every step, of the blocks the body loads. -/
def sal (X : Vec Ideal S1x8192x128 .f32) (W1 : Vec Ideal S128x64 .f32) (b1 W2 : Vec Ideal S1x64 .f32)
    (b2 : Vec Ideal S1x1 .f32) : Fin 8192 → EReal :=
  Spec.sal (fun t d => X (ix3 0 t d)) (fun d j => W1 (ix2 d j)) (fun j => b1 (ix2 0 j)) (fun j => W2 (ix2 0 j))
    (b2 (ix2 0 0))

/-- The table of saliencies. -/
theorem sal_table (X : Vec Ideal S1x8192x128 .f32) (W1 : Vec Ideal S128x64 .f32) (b1 W2 : Vec Ideal S1x64 .f32)
    (b2 : Vec Ideal S1x1 .f32) (r : Fin 64) (c : Fin 128) :
    k0_pay3 X W1 b1 W2 b2 (ix2 r c) = sal X W1 b1 W2 b2 (pos r c) := by
  pointwise [k0_pay3, k0_pay2]
  unfold sal Spec.sal
  refine congrArg (fun z => Ideal.div 1 (1 + Ideal.exp (-(z + b2 (ix2 0 0))))) ?_
  exact Finset.sum_congr rfl fun j _ => mul_comm _ _

/-- The sums within a row, up to each column. -/
theorem within_row (X : Vec Ideal S1x8192x128 .f32) (W1 : Vec Ideal S128x64 .f32) (b1 W2 : Vec Ideal S1x64 .f32)
    (b2 : Vec Ideal S1x1 .f32) (r : Fin 64) (c : Fin 128) :
    k0_pay4 X W1 b1 W2 b2 (ix2 r c) = ∑ y, if y ≤ c then sal X W1 b1 W2 b2 (pos r y) else 0 := by
  have hs := sal_table X W1 b1 W2 b2 r
  revert hs
  generalize hg : k0_pay3 (F := Ideal) X W1 b1 W2 b2 = s
  intro hs
  unfold k0_pay4
  rw [hg]
  pointwise
  refine Finset.sum_congr rfl fun y _ => ?_
  rw [hs, IntOp.cmpi, num_bit, sle_ofNat _ _ (by omega) (by omega)]
  by_cases h : y ≤ c
  · rw [if_pos h, if_pos (by simpa using h), mul_one]
  · rw [if_neg h, if_neg (by simpa using h), mul_zero]

/-- The sums of all the rows before. -/
theorem rows_before (X : Vec Ideal S1x8192x128 .f32) (W1 : Vec Ideal S128x64 .f32) (b1 W2 : Vec Ideal S1x64 .f32)
    (b2 : Vec Ideal S1x1 .f32) (r : Fin 64) (c : Fin 128) :
    k0_pay5 X W1 b1 W2 b2 (ix2 r c) = ∑ x, if x < r then ∑ y, sal X W1 b1 W2 b2 (pos x y) else 0 := by
  have hs := sal_table X W1 b1 W2 b2
  revert hs
  generalize hg : k0_pay3 (F := Ideal) X W1 b1 W2 b2 = s
  intro hs
  unfold k0_pay5
  rw [hg]
  pointwise
  refine Finset.sum_congr rfl fun x _ => ?_
  rw [Finset.sum_congr rfl fun y _ => hs x y, IntOp.cmpi, num_bit, slt_ofNat _ _ (by omega) (by omega)]
  by_cases h : x < r
  · rw [if_pos h, if_pos (by simpa using h), one_mul]
  · rw [if_neg h, if_neg (by simpa using h), zero_mul]

/-- The table of the mean saliency so far. -/
theorem cum_table (X : Vec Ideal S1x8192x128 .f32) (W1 : Vec Ideal S128x64 .f32) (b1 W2 : Vec Ideal S1x64 .f32)
    (b2 : Vec Ideal S1x1 .f32) (r : Fin 64) (c : Fin 128) :
    k0_pay6 (k0_pay4 X W1 b1 W2 b2) (k0_pay5 X W1 b1 W2 b2) (ix2 r c)
      = Spec.cum (sal X W1 b1 W2 b2) (pos r c) := by
  have h4 := within_row X W1 b1 W2 b2 r c
  have h5 := rows_before X W1 b1 W2 b2 r c
  revert h4 h5
  generalize k0_pay4 (F := Ideal) X W1 b1 W2 b2 = u
  generalize k0_pay5 (F := Ideal) X W1 b1 W2 b2 = v
  intro h4 h5
  pointwise [k0_pay6]
  have hw : IntOp.addi (IntOp.muli (BitVec.ofNat 32 r.val) 128#32) (BitVec.ofNat 32 c.val)
      = BitVec.ofNat 32 (r.val * 128 + c.val) := by
    show BitVec.ofNat 32 r.val * BitVec.ofNat 32 128 + BitVec.ofNat 32 c.val = _
    rw [← BitVec.ofNat_mul, ← BitVec.ofNat_add]
  rw [h4, h5, hw, num_ofNat _ (by omega), running]
  rfl

/-- The row of feature means. -/
theorem mean_row (X : Vec Ideal S1x8192x128 .f32) (W1 : Vec Ideal S128x64 .f32) (b1 W2 : Vec Ideal S1x64 .f32)
    (b2 : Vec Ideal S1x1 .f32) (a : Fin 131) :
    k0_pay7 (k0_pay2 X) (k0_pay3 X W1 b1 W2 b2) (k0_pay4 X W1 b1 W2 b2) (k0_pay5 X W1 b1 W2 b2) (ix2 0 a)
      = Spec.mean (fun t d => X (ix3 0 t d)) (sal X W1 b1 W2 b2) a := by
  have h3 := sal_table X W1 b1 W2 b2
  have h6 := cum_table X W1 b1 W2 b2
  have h2 : ∀ t d, k0_pay2 X (ix2 t d) = X (ix3 0 t d) := fun t d => by pointwise [k0_pay2]
  revert h3 h6 h2
  unfold k0_pay7
  generalize k0_pay6 (F := Ideal) _ _ = u
  generalize k0_pay3 (F := Ideal) X W1 b1 W2 b2 = v
  generalize k0_pay2 (F := Ideal) X = x
  intro h3 h6 h2
  pointwise
  unfold Spec.mean
  rw [Consts.div_steps, ← Consts.inv_steps]
  by_cases ha : a.val < 128
  · rw [dif_pos ha]
    refine congrArg (· * _) (Finset.sum_congr rfl fun t _ => ?_)
    rw [h2]
    unfold Spec.dense
    rw [dif_pos ha]
  rw [dif_neg ha]
  by_cases hb : a.val = 128
  · rw [dif_pos (by omega)]
    refine congrArg (· * _) ?_
    rw [Finset.sum_congr rfl fun r _ => Finset.sum_congr rfl fun c _ => h3 r c, sum_table]
    refine Finset.sum_congr rfl fun t _ => ?_
    unfold Spec.dense
    rw [dif_neg ha, if_pos hb]
  rw [dif_neg (by omega)]
  by_cases hc : a.val = 129
  · rw [dif_pos (by omega), Consts.mean_step, Consts.inv_steps]
    have hd : ∀ t, Spec.dense (fun t d => X (ix3 0 t d)) (sal X W1 b1 W2 b2) t a
        = ((((t.val : ℕ) : ℝ) * (8192 : ℝ)⁻¹ : ℝ) : EReal) := by
      intro t
      unfold Spec.dense
      rw [dif_neg ha, if_neg hb, if_pos hc, Spec.share, Consts.div_steps]
      rfl
    rw [Finset.sum_congr rfl fun t _ => hd t, ← Consts.sum_coe, ← EReal.coe_mul, EReal.coe_eq_coe_iff,
      ← Finset.sum_mul, Fin.sum_univ_eq_sum_range (fun i => (i : ℝ)) 8192, ← Nat.cast_sum, Finset.sum_range_id]
    norm_num
  · rw [dif_neg (by omega)]
    refine congrArg (· * _) ?_
    rw [Finset.sum_congr rfl fun r _ => Finset.sum_congr rfl fun c _ => h6 r c, sum_table]
    refine Finset.sum_congr rfl fun t _ => ?_
    unfold Spec.dense
    rw [dif_neg ha, if_neg hb, if_neg hc]

end Cert.KernelIdeal.Tables
-- ==== Proof.KernelPicks.lean ====
module

public import proofs.«01_k».proof.Proof.KernelTables

@[expose] public section
set_option maxRecDepth 16384
noncomputable section

/-! # How the kernel takes the chosen steps out of its tables

Each index word is split into a row and a column of the table; two indicator rows then pick the entry. The same
indicators, multiplied and added up, mark the chosen steps. -/

namespace Cert.KernelIdeal.Picks

open Cert.KernelIdeal Cert.KernelIdeal.Gen
open Idealize.ShloMosaic Idealize.ShloMosaic.Tactic
open Cert.Grid Cert.WordOps

variable (I : Vec Ideal S1x16x1 .i32)

/-- The row indicator of chosen step `i`. -/
theorem row_indicator (i : Fin 16) (h : (I (ix3 0 i 0) : BitVec 32).toNat < 8192) (r : Fin 64) :
    k0_pay24 (F := Ideal) (k0_pay23 (F := Ideal) I) (ix2 i r)
      = if r = row (Spec.step (I (ix3 0 i 0))) then (1 : EReal) else 0 := by
  have hw : k0_pay23 (F := Ideal) I (ix2 i 0) = BitVec.ofNat 32 (row (Spec.step (I (ix3 0 i 0)))).val := by
    pointwise [k0_pay23, k0_pay22]
    exact row_word h
  revert hw
  generalize k0_pay23 (F := Ideal) I = v
  intro hw
  pointwise [k0_pay24]
  rw [hw, IntOp.cmpi, num_bit, beq_ofNat _ _ (by omega) (by omega)]
  exact if_congr (by simp [Fin.ext_iff]) rfl rfl

/-- The column indicator of chosen step `i`. -/
theorem col_indicator (i : Fin 16) (h : (I (ix3 0 i 0) : BitVec 32).toNat < 8192) (c : Fin 128) :
    k0_pay25 (F := Ideal) (k0_pay22 (F := Ideal) I) 128#32 0#32 (ix2 i c)
      = if c = col (Spec.step (I (ix3 0 i 0))) then (1 : EReal) else 0 := by
  have hw : k0_pay22 (F := Ideal) I (ix2 i 0) = I (ix3 0 i 0) := by pointwise [k0_pay22]
  revert hw
  generalize k0_pay22 (F := Ideal) I = v
  intro hw
  pointwise [k0_pay25]
  rw [hw, col_word h, IntOp.cmpi, num_bit, beq_ofNat _ _ (by omega) (by omega)]
  exact if_congr (by simp [Fin.ext_iff]) rfl rfl

/-- The entry of a table at chosen step `i`. -/
theorem picked (T : FVec Ideal S64x128 .f32) (f : Fin 8192 → EReal) (hT : ∀ r c, T (ix2 r c) = f (pos r c))
    (i : Fin 16) (h : (I (ix3 0 i 0) : BitVec 32).toNat < 8192) :
    k0_pay26 T (k0_pay22 (F := Ideal) I) (k0_pay23 (F := Ideal) I) 128#32 0#32 (ix2 i 0)
      = f (Spec.step (I (ix3 0 i 0))) := by
  have hr := row_indicator I i h
  have hc := col_indicator I i h
  revert hr hc
  unfold k0_pay26
  generalize k0_pay24 (F := Ideal) _ = u
  generalize k0_pay25 (F := Ideal) _ _ _ = v
  intro hr hc
  pointwise
  rw [← pick f]
  refine Finset.sum_congr rfl fun c _ => ?_
  rw [hc, Finset.sum_congr rfl fun r _ => by rw [hr r, hT r c]]

/-- The kernel takes the mean saliency in the same way. -/
theorem picked_again : k0_pay27 (F := Ideal) = k0_pay26 := rfl

/-- The share of the length at chosen step `i`. -/
theorem share (i : Fin 16) (h : (I (ix3 0 i 0) : BitVec 32).toNat < 8192) :
    k0_pay28 (F := Ideal) (k0_pay22 (F := Ideal) I) (ix2 i 0) = Spec.share (Spec.step (I (ix3 0 i 0))) := by
  have hw : k0_pay22 (F := Ideal) I (ix2 i 0) = I (ix3 0 i 0) := by pointwise [k0_pay22]
  revert hw
  generalize k0_pay22 (F := Ideal) I = v
  intro hw
  pointwise [k0_pay28]
  rw [hw, num_step h, Consts.inv_steps, Spec.share, Consts.div_steps]

/-- The table of marks: one at every chosen step, if all the chosen steps are different. -/
theorem marks (h : ∀ i, (I (ix3 0 i 0) : BitVec 32).toNat < 8192)
    (hinj : Function.Injective fun i => Spec.step (I (ix3 0 i 0))) (r : Fin 64) (c : Fin 128) :
    k0_pay29 (F := Ideal) (k0_pay22 (F := Ideal) I) (k0_pay23 (F := Ideal) I) 128#32 0#32 (ix3 0 r c)
      = Spec.chosen (fun i => Spec.step (I (ix3 0 i 0))) (pos r c) := by
  have hr := fun i => row_indicator I i (h i)
  have hc := fun i => col_indicator I i (h i)
  revert hr hc
  unfold k0_pay29
  generalize k0_pay24 (F := Ideal) _ = u
  generalize k0_pay25 (F := Ideal) _ _ _ = v
  intro hr hc
  pointwise
  rw [← mark _ hinj]
  exact Finset.sum_congr rfl fun i _ => by rw [hr, hc]

/-- The rows of the sample that the kernel stacks, row `i` the one loaded for chosen step `i`. -/
theorem stacked (R : Fin 16 → Vec Ideal S1x1x128 .f32) (i : Fin 16) (d : Fin 128) :
    k0_pay21 (F := Ideal) (k0_pay8 (R 0)) (k0_pay9 (R 1)) (k0_pay10 (R 2)) (k0_pay11 (R 3)) (k0_pay12 (R 4))
      (k0_pay13 (R 5)) (k0_pay14 (R 6)) (k0_pay15 (R 7)) (k0_pay16 (R 8)) (k0_pay17 (R 9)) (k0_pay18 (R 10))
      (k0_pay19 (R 11)) (k0_pay20 (R 12)) (R 13) (R 14) (R 15) (ix2 i d) = R i (ix3 0 0 d) := by
  unfold_payloads
  pointwise
  fin_vals i with hi
  all_goals simp only [hi, Nat.reduceSub, Nat.reduceLT, ↓reduceDIte]
  all_goals exact congrArg (fun k => R k (ix3 0 0 d)) (Fin.ext hi.symm)

end Cert.KernelIdeal.Picks
-- ==== Proof.KernelToken.lean ====
module

public import proofs.«01_k».proof.Proof.KernelPicks

@[expose] public section
set_option maxRecDepth 16384
noncomputable section

/-! # The kernel's token of a chosen step -/

namespace Cert.KernelIdeal.Token

open Cert.KernelIdeal Cert.KernelIdeal.Gen
open Idealize.ShloMosaic Idealize.ShloMosaic.Tactic

/-- The last computation of the body: features less means, normalised, lifted and projected. With the row, the
    saliency, the share and the mean saliency of step `t` in line `i`, it is the token of step `t`. -/
theorem token (M : FVec Ideal S1x131 .f32) (rows : FVec Ideal S16x128 .f32) (s cu sh : FVec Ideal S16x1 .f32)
    (mu sg : Vec Ideal S1x131 .f32) (WL : Vec Ideal S131x16 .f32) (bL : Vec Ideal S1x16 .f32)
    (WP : Vec Ideal S16x1024 .f32) (bP : Vec Ideal S1x1024 .f32)
    (x : Fin 8192 → Fin 128 → EReal) (sal : Fin 8192 → EReal) (t : Fin 8192) (i : Fin 16)
    (hM : ∀ a, M (ix2 0 a) = Spec.mean x sal a) (hrows : ∀ d, rows (ix2 i d) = x t d)
    (hs : s (ix2 i 0) = sal t) (hcu : cu (ix2 i 0) = Spec.cum sal t) (hsh : sh (ix2 i 0) = Spec.share t)
    (d : Fin 1024) :
    k0_pay1 M rows s cu sh mu sg WL bL WP bP (ix3 0 i d)
      = Spec.token x sal (fun a => mu (ix2 0 a)) (fun a => sg (ix2 0 a)) (fun a c => WL (ix2 a c))
          (fun c => bL (ix2 0 c)) (fun c d => WP (ix2 c d)) (fun d => bP (ix2 0 d)) t d := by
  pointwise [k0_pay1]
  unfold Spec.token Spec.lift
  refine congrArg (· + bP (ix2 0 d)) (Finset.sum_congr rfl fun c _ => congrArg (· * WP (ix2 c d)) ?_)
  refine congrArg (· + bL (ix2 0 c)) (Finset.sum_congr rfl fun a _ => congrArg (· * WL (ix2 a c)) ?_)
  rw [hM]
  refine congrArg (fun z => Ideal.div (z - Spec.mean x sal a - mu (ix2 0 a)) (sg (ix2 0 a))) ?_
  unfold Spec.dense
  by_cases ha : a.val < 128
  · rw [dif_pos ha, dif_pos ha, hrows]
  rw [dif_neg ha, dif_neg ha]
  by_cases hb : a.val = 128
  · rw [dif_pos (by omega), if_pos hb, ← hs]
    exact congrArg s (congrArg (ix2 i) (Subsingleton.elim _ _))
  rw [dif_neg (by omega), if_neg hb]
  by_cases hc : a.val = 129
  · rw [dif_pos (by omega), if_pos hc, ← hsh]
    exact congrArg sh (congrArg (ix2 i) (Subsingleton.elim _ _))
  · rw [dif_neg (by omega), if_neg hc, ← hcu]
    exact congrArg cu (congrArg (ix2 i) (Subsingleton.elim _ _))

/-- Row `n` of a sample, as a block of one row. -/
def rowAt (X : Vec Ideal S1x8192x128 .f32) (n : ℕ) : Vec Ideal S1x1x128 .f32 :=
  fun j => X (ix3 0 (Fin.ofNat 8192 n) (j 2))

/-- The whole body for chosen step `i`, once its sixteen rows are loaded at the numbers the index words name. -/
theorem body_token (X X' : Vec Ideal S1x8192x128 .f32) (W1 W1' : Vec Ideal S128x64 .f32)
    (b1 W2 b1' W2' : Vec Ideal S1x64 .f32) (b2 b2' : Vec Ideal S1x1 .f32) (mu sg mu' sg' : Vec Ideal S1x131 .f32)
    (WL WL' : Vec Ideal S131x16 .f32) (bL bL' : Vec Ideal S1x16 .f32) (WP WP' : Vec Ideal S16x1024 .f32)
    (bP bP' : Vec Ideal S1x1024 .f32) (I I' : Vec Ideal S1x16x1 .i32)
    (eX : X' = X) (eW1 : W1' = W1) (eb1 : b1' = b1) (eW2 : W2' = W2) (eb2 : b2' = b2) (emu : mu' = mu)
    (esg : sg' = sg) (eWL : WL' = WL) (ebL : bL' = bL) (eWP : WP' = WP) (ebP : bP' = bP) (eI : I' = I)
    (W : Fin 16 → BitVec 32)
    (R0 R1 R2 R3 R4 R5 R6 R7 R8 R9 R10 R11 R12 R13 R14 R15 : Vec Ideal S1x1x128 .f32)
    (h0 : R0 = rowAt X (W 0).toNat) (h1 : R1 = rowAt X (W 1).toNat) (h2 : R2 = rowAt X (W 2).toNat)
    (h3 : R3 = rowAt X (W 3).toNat) (h4 : R4 = rowAt X (W 4).toNat) (h5 : R5 = rowAt X (W 5).toNat)
    (h6 : R6 = rowAt X (W 6).toNat) (h7 : R7 = rowAt X (W 7).toNat) (h8 : R8 = rowAt X (W 8).toNat)
    (h9 : R9 = rowAt X (W 9).toNat) (h10 : R10 = rowAt X (W 10).toNat) (h11 : R11 = rowAt X (W 11).toNat)
    (h12 : R12 = rowAt X (W 12).toNat) (h13 : R13 = rowAt X (W 13).toNat) (h14 : R14 = rowAt X (W 14).toNat)
    (h15 : R15 = rowAt X (W 15).toNat)
    (i : Fin 16) (hW : W i = I (ix3 0 i 0)) (hI : (W i).toNat < 8192) (d : Fin 1024) :
    k0_pay1 (k0_pay7 (k0_pay2 X') (k0_pay3 X' W1' b1' W2' b2') (k0_pay4 X' W1' b1' W2' b2') (k0_pay5 X' W1' b1' W2' b2'))
      (k0_pay21 (F := Ideal) (k0_pay8 R0) (k0_pay9 R1) (k0_pay10 R2) (k0_pay11 R3) (k0_pay12 R4)
        (k0_pay13 R5) (k0_pay14 R6) (k0_pay15 R7) (k0_pay16 R8) (k0_pay17 R9) (k0_pay18 R10)
        (k0_pay19 R11) (k0_pay20 R12) R13 R14 R15)
      (k0_pay26 (k0_pay3 X' W1' b1' W2' b2') (k0_pay22 (F := Ideal) I') (k0_pay23 (F := Ideal) I') 128#32 0#32)
      (k0_pay27 (k0_pay6 (k0_pay4 X' W1' b1' W2' b2') (k0_pay5 X' W1' b1' W2' b2')) (k0_pay22 (F := Ideal) I')
        (k0_pay23 (F := Ideal) I') 128#32 0#32)
      (k0_pay28 (k0_pay22 (F := Ideal) I')) mu' sg' WL' bL' WP' bP' (ix3 0 i d)
      = Spec.token (fun t d => X (ix3 0 t d)) (Tables.sal X W1 b1 W2 b2) (fun a => mu (ix2 0 a))
          (fun a => sg (ix2 0 a)) (fun a c => WL (ix2 a c)) (fun c => bL (ix2 0 c)) (fun c d => WP (ix2 c d))
          (fun d => bP (ix2 0 d)) (Spec.step (W i)) d := by
  subst eX eW1 eb1 eW2 eb2 emu esg eWL ebL eWP ebP eI
  subst h0 h1 h2 h3 h4 h5 h6 h7 h8 h9 h10 h11 h12 h13 h14 h15
  have hw : (I' (ix3 0 i 0) : BitVec 32).toNat < 8192 := hW ▸ hI
  refine token _ _ _ _ _ mu' sg' WL' bL' WP' bP' _ _ _ i (fun a => Tables.mean_row X' W1' b1' W2' b2' a) (fun d => ?_) ?_ ?_ ?_ d
  · exact Picks.stacked (fun k => rowAt X' (W k).toNat) i d
  · rw [hW]; exact Picks.picked I' _ _ (Tables.sal_table X' W1' b1' W2' b2') i hw
  · rw [hW]; exact Picks.picked I' _ _ (Tables.cum_table X' W1' b1' W2' b2') i hw
  · rw [hW]; exact Picks.share I' i hw

end Cert.KernelIdeal.Token
-- ==== Proof.KernelBlock.lean ====
module

public import proofs.«01_k».proof.Proof.Gen.KernelIdeal.Frame
public import Idealize.ShloMosaic.Lib.Pipeline.Value
public import proofs.«01_k».proof.Proof.KernelIdealRows
public import proofs.«01_k».proof.Proof.KernelToken

@[expose] public section
noncomputable section

/-! # What one step of the kernel's grid stores -/

namespace Cert.KernelIdeal.Block

open Cert.KernelIdeal Cert.KernelIdeal.Gen
open Cert.KernelIdeal.Token
open Idealize.ShloMosaic Idealize.ShloMosaic.TcCoe Idealize.ShloMosaic.Tactic

/-- A coordinate of an entry of a rectangle without gaps. -/
theorem idx_val {S : Shape} (off size : Fin S.rank → ℕ) (inb) (x : (Rect.unit (s := S) off size inb).shape.Idx)
    (a : Fin S.rank) : ((Rect.unit (s := S) off size inb).idx x a).val = off a + (x a).val := by
  show off a + 1 * (x a).val = _
  omega

/-- Loading one index word. -/
theorem ld_word (W : Vec Ideal S1x1x16 .i32) (k : Fin 16) (h) (h1) :
    View.ld W (Rect.unit (s := S1x1x16) ![0, 0, k.val] ![1, 1, 1] h) (Shape.Idx.first h1) = W (ix3 0 0 k) := by
  refine congrArg W (funext fun a => Fin.ext ?_)
  rw [idx_val]
  fin_cases a <;> rfl

/-- Loading row `n`. -/
theorem ld_row_at (X : Vec Ideal S1x8192x128 .f32) (n : ℕ) (hn : n < 8192) (h) :
    View.ld X (Rect.unit (s := S1x8192x128) ![0, n, 0] ![1, 1, 128] h) = rowAt X n := by
  funext j
  refine congrArg X (funext fun a => Fin.ext ?_)
  rw [idx_val]
  fin_cases a
  · show 0 + (j 0).val = 0
    have h1 : (j 0).val < 1 := (j 0).isLt
    omega
  · show n + (j 1).val = n % 8192
    have h1 : (j 1).val < 1 := (j 1).isLt
    rw [Nat.mod_eq_of_lt hn]
    omega
  · show 0 + (j 2).val = (j 2).val
    omega

/-- Loading the row that an index word names. -/
theorem ld_row (X : Vec Ideal S1x8192x128 .f32) (W W' : Vec Ideal S1x1x16 .i32) (hW : W' = W)
    (hw : ∀ k, (W (ix3 0 0 k) : BitVec 32).toNat < 8192) (k : Fin 16) (h0) (h1) (h) :
    View.ld X (Rect.unit (s := S1x8192x128) ![0, BitVec.toNat (Scalar.indexCast
      (View.ld W' (Rect.unit (s := S1x1x16) ![0, 0, k.val] ![1, 1, 1] h0) (Shape.Idx.first h1) : BitVec 32)), 0]
      ![1, 1, 128] h) = rowAt X (W (ix3 0 0 k) : BitVec 32).toNat := by
  subst hW
  have e : BitVec.toNat (Scalar.indexCast
      (View.ld W' (Rect.unit (s := S1x1x16) ![0, 0, k.val] ![1, 1, 1] h0) (Shape.Idx.first h1) : BitVec 32))
      = (W' (ix3 0 0 k) : BitVec 32).toNat := by rw [ld_word]; rfl
  exact (ld_row_at X _ (e ▸ hw k) h).trans (congrArg (rowAt X) e)

/-- The zero offsets of a whole load of a matrix. -/
theorem zero2 : (![0, 0] : Fin 2 → ℕ) = fun _ => 0 := by funext a; fin_cases a <;> rfl

/-- The zero offsets of a whole load of a box. -/
theorem zero3 : (![0, 0, 0] : Fin 3 → ℕ) = fun _ => 0 := by funext a; fin_cases a <;> rfl

variable (m : (ℓ : Loc nD τ sig) → Buf (Elt Ideal) ℓ)

/-- The second output block of grid step `t` marks the steps that the column of index words names. -/
theorem marks (hH : Hyps m) (c : Dev nD) (t : Fin cfg0.N) : (outsAt0 m hH c t).2 =
    k0_pay29 (F := Ideal) (k0_pay22 (F := Ideal) (iblk m c 11 t)) (k0_pay23 (F := Ideal) (iblk m c 11 t)) 128#32 0#32 := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread]
  refine (View.canon_unit_zero (S := S1x64x128) zero3 _ _).trans ?_
  exact congrArg (fun I : Vec Ideal S1x16x1 .i32 => k0_pay29 (F := Ideal) (k0_pay22 (F := Ideal) I)
    (k0_pay23 (F := Ideal) I) 128#32 0#32) (View.ld_unit_zero (S := S1x16x1) zero3 _ _)

/-- The first output block of grid step `t`: line `i` is the token of the step that the `i`-th index word names. -/
theorem tokens (hH : Hyps m) (c : Dev nD) (t : Fin cfg0.N)
    (hw : ∀ k, ((iblk m c 12 t : Vec Ideal S1x1x16 .i32) (ix3 0 0 k) : BitVec 32).toNat < 8192)
    (i : Fin 16) (hW : (iblk m c 12 t : Vec Ideal S1x1x16 .i32) (ix3 0 0 i) = (iblk m c 11 t : Vec Ideal S1x16x1 .i32) (ix3 0 i 0))
    (d : Fin 1024) : (outsAt0 m hH c t).1 (ix3 0 i d) =
    Spec.token (fun t' d => (iblk m c 0 t : Vec Ideal S1x8192x128 .f32) (ix3 0 t' d))
      (Tables.sal (iblk m c 0 t) (iblk m c 1 t) (iblk m c 2 t) (iblk m c 3 t) (iblk m c 4 t))
      (fun a => (iblk m c 9 t : Vec Ideal S1x131 .f32) (ix2 0 a)) (fun a => (iblk m c 10 t : Vec Ideal S1x131 .f32) (ix2 0 a))
      (fun a c' => (iblk m c 5 t : Vec Ideal S131x16 .f32) (ix2 a c')) (fun c' => (iblk m c 6 t : Vec Ideal S1x16 .f32) (ix2 0 c'))
      (fun c' d => (iblk m c 7 t : Vec Ideal S16x1024 .f32) (ix2 c' d)) (fun d => (iblk m c 8 t : Vec Ideal S1x1024 .f32) (ix2 0 d))
      (Spec.step ((iblk m c 12 t : Vec Ideal S1x1x16 .i32) (ix3 0 0 i))) d := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread]
  refine (congrFun (View.canon_unit_zero (S := S1x16x1024) zero3 _ _) _).trans ?_
  exact body_token _ _ _ _ _ _ _ _ _ _ _ _ _ _ _ _ _ _ _ _ _ _ _ _
    (View.ld_unit_zero (S := S1x8192x128) zero3 _ _) (View.ld_unit_zero (S := S128x64) zero2 _ _)
    (View.ld_unit_zero (S := S1x64) zero2 _ _) (View.ld_unit_zero (S := S1x64) zero2 _ _)
    (View.ld_unit_zero (S := S1x1) zero2 _ _) (View.ld_unit_zero (S := S1x131) zero2 _ _)
    (View.ld_unit_zero (S := S1x131) zero2 _ _) (View.ld_unit_zero (S := S131x16) zero2 _ _)
    (View.ld_unit_zero (S := S1x16) zero2 _ _) (View.ld_unit_zero (S := S16x1024) zero2 _ _)
    (View.ld_unit_zero (S := S1x1024) zero2 _ _) (View.ld_unit_zero (S := S1x16x1) zero3 _ _)
    (fun k => (iblk m c 12 t : Vec Ideal S1x1x16 .i32) (ix3 0 0 k)) _ _ _ _ _ _ _ _ _ _ _ _ _ _ _ _
    (ld_row _ _ _ ((hs0_12 t).read_unread _) hw 0 _ _ _)
    (ld_row _ _ _ ((hs0_12 t).read_unread _) hw 1 _ _ _)
    (ld_row _ _ _ ((hs0_12 t).read_unread _) hw 2 _ _ _)
    (ld_row _ _ _ ((hs0_12 t).read_unread _) hw 3 _ _ _)
    (ld_row _ _ _ ((hs0_12 t).read_unread _) hw 4 _ _ _)
    (ld_row _ _ _ ((hs0_12 t).read_unread _) hw 5 _ _ _)
    (ld_row _ _ _ ((hs0_12 t).read_unread _) hw 6 _ _ _)
    (ld_row _ _ _ ((hs0_12 t).read_unread _) hw 7 _ _ _)
    (ld_row _ _ _ ((hs0_12 t).read_unread _) hw 8 _ _ _)
    (ld_row _ _ _ ((hs0_12 t).read_unread _) hw 9 _ _ _)
    (ld_row _ _ _ ((hs0_12 t).read_unread _) hw 10 _ _ _)
    (ld_row _ _ _ ((hs0_12 t).read_unread _) hw 11 _ _ _)
    (ld_row _ _ _ ((hs0_12 t).read_unread _) hw 12 _ _ _)
    (ld_row _ _ _ ((hs0_12 t).read_unread _) hw 13 _ _ _)
    (ld_row _ _ _ ((hs0_12 t).read_unread _) hw 14 _ _ _)
    (ld_row _ _ _ ((hs0_12 t).read_unread _) hw 15 _ _ _)
    i hW (hw i) d

end Cert.KernelIdeal.Block
-- ==== Proof.Results.lean ====
module

public import proofs.«01_k».proof.Proof.Grid
public import Idealize.ShloMosaic.Lib.Pointwise

@[expose] public section
noncomputable section

/-! # The two results, as formulas of the twelve arguments

The kernel and the reference are each shown to compute these. -/

namespace Cert.Results

open Idealize.ShloMosaic

variable (x : FVec Ideal ⟨3, ![4, 8192, 128]⟩ .f32) (W1 : FVec Ideal ⟨2, ![128, 64]⟩ .f32) (b1 : FVec Ideal ⟨1, ![64]⟩ .f32)
  (W2 : FVec Ideal ⟨2, ![64, 1]⟩ .f32) (b2 : FVec Ideal ⟨1, ![1]⟩ .f32) (WL : FVec Ideal ⟨2, ![131, 16]⟩ .f32)
  (bL : FVec Ideal ⟨1, ![16]⟩ .f32) (WP : FVec Ideal ⟨2, ![16, 1024]⟩ .f32) (bP : FVec Ideal ⟨1, ![1024]⟩ .f32)
  (mu sg : FVec Ideal ⟨1, ![131]⟩ .f32) (I : IVec ⟨2, ![4, 16]⟩ 32)

/-- The saliency of each step of sample `b`. -/
def sal (b : Fin 4) : Fin 8192 → EReal :=
  Spec.sal (fun t d => x (ix3 b t d)) (fun d j => W1 (ix2 d j)) (fun j => b1 (ix1 j)) (fun j => W2 (ix2 j 0))
    (b2 (ix1 0))

/-- The token of step `t` of sample `b`, entry `d`. -/
def tokenAt (b : Fin 4) (t : Fin 8192) (d : Fin 1024) : EReal :=
  Spec.token (fun t d => x (ix3 b t d)) (sal x W1 b1 W2 b2 b) (fun a => mu (ix1 a)) (fun a => sg (ix1 a))
    (fun a c => WL (ix2 a c)) (fun c => bL (ix1 c)) (fun c d => WP (ix2 c d)) (fun d => bP (ix1 d)) t d

/-- The first result: the tokens of the chosen steps of every sample. -/
def tokens : FVec Ideal ⟨3, ![4, 16, 1024]⟩ .f32 :=
  fun i => tokenAt x W1 b1 W2 b2 WL bL WP bP mu sg (i 0) (Spec.step (I (ix2 (i 0) (i 1)))) (i 2)

/-- The second result: one at the chosen steps of every sample, zero elsewhere. -/
def marks : FVec Ideal ⟨2, ![4, 8192]⟩ .f32 :=
  fun i => Spec.chosen (fun k => Spec.step (I (ix2 (i 0) k))) (i 1)

end Cert.Results
-- ==== Proof.KernelArray.lean ====
module

public import proofs.«01_k».proof.Proof.KernelArgs
public import proofs.«01_k».proof.Proof.KernelBlock
public import proofs.«01_k».proof.Proof.Results

@[expose] public section
set_option maxRecDepth 16384
noncomputable section

/-! # What the kernel's two output arrays hold -/

namespace Cert.KernelIdeal.Arrays

open Cert.KernelIdeal Cert.KernelIdeal.Gen Cert.KernelIdeal.Args
open Idealize.ShloMosaic Idealize.ShloMosaic.TcCoe Idealize.ShloMosaic.Tactic

variable (m : (ℓ : Loc nD τ sig) → Buf (Elt Ideal) ℓ) (c : Dev nD)

/-- The first result of the arguments in memory `m`. -/
def tokens : FVec Ideal S4x16x1024 .f32 :=
  Results.tokens (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The second result of the arguments in memory `m`. -/
def marks : FVec Ideal S4x8192 .f32 := Results.marks (m ((c : Thread nD τ).loc main_arg11))

/-- The index words of every sample are below 8192. -/
abbrev Below : Prop := ∀ y : S4x16.Idx, (m ((c : Thread nD τ).loc main_arg11) y : BitVec 32).toNat < 8192

/-- Within a sample the index words are different. -/
abbrev Distinct : Prop := ∀ (b : Fin 4) (j k : Fin 16),
  (m ((c : Thread nD τ).loc main_arg11) (ix2 b j) : BitVec 32) = m ((c : Thread nD τ).loc main_arg11) (ix2 b k) → j = k

/-- Line `i` of the first block of grid step `t`. -/
theorem tokens_block (hH : Hyps m) (hb : Below m c) (t : Fin cfg0.N) (i : Fin 16) (d : Fin 1024) :
    (outsAt0 m hH c t).1 (ix3 0 i d) = tokens m c (ix3 (sample t) i d) := by
  rw [Block.tokens m hH c t (fun k => by rw [block_12]; exact hb _) i (by rw [block_12, block_11]) d]
  simp only [block_0, block_5, block_6, block_7, block_8, block_9, block_10, block_12, Tables.sal, block_1, block_2, block_3, block_4]
  rfl

/-- The second block of grid step `t`. -/
theorem marks_block (hH : Hyps m) (hb : Below m c) (hd : Distinct m c) (t : Fin cfg0.N) (r : Fin 64) (l : Fin 128) :
    (outsAt0 m hH c t).2 (ix3 0 r l) = marks m c (ix2 (sample t) (Grid.pos r l)) := by
  rw [Block.marks m hH c t, Picks.marks (iblk m c 11 t) (fun i => by rw [block_11]; exact hb _) ?_ r l]
  · simp only [block_11]
    rfl
  · intro j k h
    simp only [block_11] at h
    refine hd (sample t) j k (BitVec.eq_of_toNat_eq ?_)
    have := congrArg Fin.val h
    rwa [Spec.step_val (hb _), Spec.step_val (hb _)] at this

/-- The first output array holds the tokens. -/
theorem tokens_array (hH : Hyps m) (hb : Below m c) :
    (dats m hH 0 c).arrAt 13 cfg0.N = tokens m c := by
  refine (dats m hH 0 c).arrAt_eq_of_covers 13 _ (by decide +kernel) fun t hf y => ?_
  blk_simp
  rw [after0_13]
  idx_vars y
  have h0 : y0 = 0 := Subsingleton.elim _ _
  subst h0
  have he : ((View.whole main_v9_0).slice (win0_13.rect t)).emb (ix3 0 y1 y2) = ix3 (sample t) y1 y2 := by
    blk_ext [idx t]
    exact Nat.add_zero _
  rw [he]
  exact tokens_block m c hH hb t y1 y2

/-- The second output array holds the marks, by row and column. -/
theorem marks_array (hH : Hyps m) (hb : Below m c) (hd : Distinct m c) :
    (dats m hH 0 c).arrAt 14 cfg0.N = fun i : S4x64x128.Idx => marks m c (ix2 (i 0) (Grid.pos (i 1) (i 2))) := by
  refine (dats m hH 0 c).arrAt_eq_of_covers 14 _ (by decide +kernel) fun t hf y => ?_
  blk_simp
  rw [after0_14]
  idx_vars y
  have h0 : y0 = 0 := Subsingleton.elim _ _
  subst h0
  have he : (win0_14.blk t).view.emb (ix3 0 y1 y2) = ix3 (sample t) y1 y2 := by
    blk_ext [idx t]
    exact Nat.add_zero _
  rw [he]
  exact marks_block m c hH hb hd t y1 y2

end Cert.KernelIdeal.Arrays
-- ==== Proof.KernelRun.lean ====
module

public import proofs.«01_k».proof.Proof.KernelArray
public import proofs.«01_k».proof.Proof.KernelIdealRows
public import Idealize.ShloMosaic.Lib.Claim

@[expose] public section
set_option maxRecDepth 16384
noncomputable section

/-! # What the kernel over extended reals leaves in its two results -/

namespace Cert.KernelIdeal.Run

open Cert.KernelIdeal Cert.KernelIdeal.Gen Cert.KernelIdeal.Arrays
open Idealize.ShloMosaic Idealize.ShloMosaic.TcCoe Idealize.ShloMosaic.Tactic Idealize.SL.Sem

variable (m : (ℓ : Loc nD τ sig) → Buf (Elt Ideal) ℓ)

/-- Laying 64 rows of 128 in one row of 8192: entry `p` is the one at its row and column. -/
theorem flat (f : FVec Ideal S4x8192 .f32) :
    shapeCast S4x8192 (fun i : S4x64x128.Idx => f (ix2 (i 0) (Grid.pos (i 1) (i 2)))) shapeCasts_S4x64x128_S4x8192 = f := by
  funext i
  idx_vars i
  generalize hg : (fun i : S4x64x128.Idx => f (ix2 (i 0) (Grid.pos (i 1) (i 2)))) = g
  pointwise
  subst hg
  show f (ix2 i0 (Grid.pos (Grid.row i1) (Grid.col i1))) = _
  rw [Grid.pos_row_col]

/-- The reshape after the kernel leaves the marks by step. -/
theorem marks_flat (hH : Hyps m) (c : Dev nD) (hb : Below m c) (hd : Distinct m c) :
    Pipeline.afterTail₀ cfgs (dats m hH) 0 (V0 m) [hostOps1] c main_v10 = marks m c := by
  have e : Pipeline.afterTail₀ cfgs (dats m hH) 0 (V0 m) [hostOps1] c main_v10
      = shapeCast S4x8192 ((dats m hH 0 c).arrAt 14 cfg0.N) shapeCasts_S4x64x128_S4x8192 := by
    dsimp only [Pipeline.afterTail₀, hostOps1, List.flatten_cons, List.flatten_nil, List.append_nil,
      List.cons_append, List.nil_append]
    after_results_simp
    exact congrArg (fun v => shapeCast S4x8192 v shapeCasts_S4x64x128_S4x8192)
      (Pipeline.withArrays_arr spec0 launch0.win.arr_inj c (V0 m c) (fun w => (dats m hH 0 c).arrAt w (cfgs 0).N) 14)
  rw [e, marks_array m c hH hb hd]
  exact flat _

/-- Under distinct indices below 8192 the kernel ends with the two results the formulas name and its arguments as
they were. -/
theorem run (ρ : Dev nD → PrngReg) (hb : ∀ c, Below m c) (hd : ∀ c, Distinct m c) :
    θ_run defs (onTc (τ := τ) (main (F := Ideal))) ⟨m, fun _ => 0, ρ⟩ (fun r => ∀ c : Dev nD,
      r.2.mem ((c.tc : Thread nD τ).loc main_v9_0) = tokens m c
      ∧ r.2.mem ((c.tc : Thread nD τ).loc main_v10) = marks m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  have hH : Hyps m := Rows.hyps_of_lt m hb
  refine (θ_run defs _ _).mono (fun r h c => ⟨?_, ?_, h.2 c⟩) (θ_run_and (run_main m ρ hH) (unchanged m ρ hH))
  · exact ((h.1 c).1 13).trans (tokens_array m c hH (hb c))
  · exact ((h.1 c).2 main_v10 (Pipeline.mem_restRefs_of main_v10 (by decide) (by decide))).trans
      (marks_flat m hH c (hb c) (hd c))

end Cert.KernelIdeal.Run
-- ==== Proof.ReferenceMarks.lean ====
module

public import proofs.«01_k».proof.Proof.Results
public import proofs.«01_k».proof.Proof.WordOps
public import proofs.«01_k».proof.Proof.Gen.ReferenceIdeal.Read
public import Idealize.ShloMosaic.Lib.Routing.OpsSet
public import Idealize.ShloMosaic.Lib.Routing.OpsPair

@[expose] public section
set_option maxRecDepth 16384
noncomputable section

/-! # The marks the reference scatters -/

namespace Cert.ReferenceIdeal.Marks

open Cert.ReferenceIdeal Cert.ReferenceIdeal.Gen Cert.ReferenceIdeal.Read
open Idealize.ShloMosaic Idealize.ShloMosaic.Tactic

variable (I : IVec S4x16 32)

/-- The first word of an update's place is its sample. -/
theorem sample_word (b : Fin 4) (k : Fin 16) :
    val_main_v32 (F := Ideal) I (ix3 b k 0) = BitVec.ofNat 32 b.val := by
  unfold val_main_v32 val_main_v31 val_main_v30 val_main_v29 val_main_v28 val_main_v27 val_main_v26 val_main_v25
    val_main_v24 val_main_v23 val_main_v22 val_main_v21 val_main_v20 val_main_v19 val_main_v18 val_main_v17
    val_main_c val_main_c_2 val_main_c_3 val_main_c_4
  pointwise
  exact Routing.wrap_of_lt _ _ (by rw [BitVec.toNat_ofNat]; omega)

/-- The second word is the index word. -/
theorem step_word (b : Fin 4) (k : Fin 16) (h : (I (ix2 b k)).toNat < 8192) :
    val_main_v32 (F := Ideal) I (ix3 b k 1) = I (ix2 b k) := by
  unfold val_main_v32 val_main_v31 val_main_v30 val_main_v29 val_main_v28 val_main_v27 val_main_v26 val_main_v25
    val_main_v24 val_main_v23 val_main_v22 val_main_v21 val_main_v20 val_main_v19 val_main_v18 val_main_v17
    val_main_c val_main_c_2 val_main_c_3 val_main_c_4
  pointwise
  exact Routing.wrap_of_lt _ _ (by omega)

/-- Update `k` of sample `b` lands at step `t` of sample `a` exactly when the samples are the same and its word names `t`. -/
theorem lands (h : ∀ y, (I y).toNat < 8192) (b : Fin 4) (k : Fin 16) (a : Fin 4) (t : Fin 8192) :
    scatter_S4x8192_S4x16x2_S4x16_n_01_01_2.resultIdx? (ix2 b k) (val_main_v32 (F := Ideal) I) = some (ix2 a t)
      ↔ b = a ∧ Spec.step (I (ix2 b k)) = t := by
  have e := Routing.scatter_lands2 scatter_S4x8192_S4x16x2_S4x16_n_01_01_2 rfl rfl rfl (val_main_v32 (F := Ideal) I) b k a t
  simp only [← ix2_eq_valueIdx, ← ix3_eq_valueIdx] at e
  refine e.trans ?_
  rw [sample_word, step_word I b k (h _), WordArith.toInt_ofNat_small b.val (by omega), WordOps.toInt_small (by have := h (ix2 b k); omega),
    Fin.ext_iff, Fin.ext_iff, Spec.step_val (h _)]
  norm_cast

/-- The reference's second result is the formula's. -/
theorem marks (h : ∀ y, (I y).toNat < 8192) : val_main_v34 (F := Ideal) I = Results.marks I := by
  funext i
  idx_vars i
  have one : ∀ y : S4x16.Idx, val_main_v33 (F := Ideal) y = 1 := fun y => by
    idx_vars y
    unfold val_main_v33 val_main_cst_5
    pointwise
  have zero : val_main_v16 (F := Ideal) (ix2 i0 i1) = 0 := by
    unfold val_main_v16 val_main_cst_1
    pointwise
  show Host.scatter _ _ _ _ _ _ = Spec.chosen (fun k => Spec.step (I (ix2 i0 k))) i1
  unfold Spec.chosen
  split
  · next hk =>
    obtain ⟨k, hk⟩ := hk
    exact Routing.scatter_set_hit _ _ _ _ _ 1 (fun y _ => one y) (ix2 i0 k) ((lands I h i0 k i0 i1).2 ⟨rfl, hk⟩)
  · next hk =>
    refine (Routing.scatter_set_miss _ _ _ _ _ fun y hy => hk ?_).trans zero
    idx_vars y
    obtain ⟨rfl, e⟩ := (lands I h _ _ i0 i1).1 hy
    exact ⟨_, e⟩

end Cert.ReferenceIdeal.Marks
-- ==== Proof.ReferenceSal.lean ====
module

public import proofs.«01_k».proof.Proof.Results
public import proofs.«01_k».proof.Proof.Gen.ReferenceIdeal.Read

@[expose] public section
set_option maxRecDepth 16384
noncomputable section

/-! # The saliency the reference computes -/

namespace Cert.ReferenceIdeal.Sal

open Cert.ReferenceIdeal Cert.ReferenceIdeal.Gen Cert.ReferenceIdeal.Read
open Idealize.ShloMosaic Idealize.ShloMosaic.Tactic

variable (x : FVec Ideal S4x8192x128 .f32) (W1 : FVec Ideal S128x64 .f32) (b1 : FVec Ideal S64 .f32)
  (W2 : FVec Ideal S64x1 .f32) (b2 : FVec Ideal S1 .f32)

/-- The reference's saliency is the formula's. -/
theorem sal (b : Fin 4) (t : Fin 8192) :
    val_main_v15 (F := Ideal) x W1 b1 W2 b2 (ix2 b t) = Results.sal x W1 b1 W2 b2 b t := by
  unfold val_main_v15 val_main_v14 val_main_cst_0 val_main_v13 val_main_v12 val_main_cst val_main_v11 val_main_v10
    val_main_v9 val_main_v8 val_main_v7 val_main_v6 val_main_v5 val_main_v4 val_main_v3 val_main_v2 val_main_v1
    val_main_v0
  pointwise
  rfl

end Cert.ReferenceIdeal.Sal
-- ==== Proof.ReferenceCum.lean ====
module

public import proofs.«01_k».proof.Proof.Results
public import proofs.«01_k».proof.Proof.Gen.ReferenceIdeal.Read
public import Idealize.ShloMosaic.Lib.Routing.Ops
public import Idealize.ShloMosaic.Lib.Pointwise

@[expose] public section
set_option maxRecDepth 16384
noncomputable section

/-! # The running sum the reference takes of the saliency

It is a sum over a window of 8192 steps that ends at the step in question; places before the first step count zero. -/

namespace Cert.ReferenceIdeal.Cum

open Cert.ReferenceIdeal Cert.ReferenceIdeal.Gen Cert.ReferenceIdeal.Read
open Idealize.ShloMosaic Idealize.ShloMosaic.Tactic

/-- A fold that adds one number per entry of a list adds the list's sum. -/
theorem foldl_add {ι : Type} (l : List ι) (f : ι → EReal) (g : EReal → ι → EReal) (hg : ∀ r n, g r n = r + f n) (r : EReal) :
    l.foldl g r = r + (l.map f).sum := by
  induction l generalizing r with
  | nil => simp
  | cons n l ih => rw [List.foldl_cons, ih, hg, List.map_cons, List.sum_cons, add_assoc]

/-- The sum over the window that ends at step `t`: place `n` holds step `t + n - N` when there is one. -/
theorem window_sum {N : ℕ} (s : Fin (N + 1) → EReal) (t : Fin (N + 1)) :
    (∑ n : Fin (N + 1), if h : N ≤ t.val + n.val then s ⟨t.val + n.val - N, by omega⟩ else 0)
      = ∑ u ∈ Finset.univ.filter (· ≤ t), s u := by
  rw [← Finset.sum_filter_add_sum_filter_not Finset.univ (fun n : Fin (N + 1) => N ≤ t.val + n.val),
    Finset.sum_eq_zero (s := Finset.univ.filter fun n : Fin (N + 1) => ¬ N ≤ t.val + n.val)
    (fun n hn => dif_neg (Finset.mem_filter.1 hn).2), add_zero]
  refine Finset.sum_bij (fun n _ => (⟨t.val + n.val - N, by omega⟩ : Fin (N + 1))) ?_ ?_ ?_ ?_
  · intro n hn
    refine Finset.mem_filter.2 ⟨Finset.mem_univ _, ?_⟩
    show t.val + n.val - N ≤ t.val
    omega
  · intro n hn n' hn' e
    have h := (Finset.mem_filter.1 hn).2
    have h' := (Finset.mem_filter.1 hn').2
    have e' : t.val + n.val - N = t.val + n'.val - N := congrArg Fin.val e
    exact Fin.ext (by omega)
  · intro u hu
    have hu' : u.val ≤ t.val := (Finset.mem_filter.1 hu).2
    refine ⟨⟨u.val + N - t.val, by omega⟩, Finset.mem_filter.2 ⟨Finset.mem_univ _, ?_⟩, Fin.ext ?_⟩
    · show N ≤ t.val + (u.val + N - t.val)
      omega
    · show t.val + (u.val + N - t.val) - N = u.val
      omega
  · intro n hn
    exact dif_pos (Finset.mem_filter.1 hn).2

/-- A window sum along the second axis of a table, the window as long as the axis and ending at the entry: the sum of
the entries up to it. -/
theorem running_any {R N : ℕ} (x : (⟨2, ![R, N + 1]⟩ : Shape).Idx → EReal)
    (h : (⟨2, ![R, N + 1]⟩ : Shape).ReduceWindows (![1, N + 1] : Fin 2 → ℕ) ![1, 1] ![0, N] ![0, 0] ⟨2, ![R, N + 1]⟩)
    (b : Fin R) (t : Fin (N + 1)) :
    Ideal.hostReduceWindowAdd ![1, N + 1] ![1, 1] ![0, N] ![0, 0] h x 0 (ValueIdx.ix2 b t)
      = ∑ u ∈ Finset.univ.filter (· ≤ t), x (ValueIdx.ix2 b u) := by
  have size : (⟨2, ![1, N + 1]⟩ : Shape).numel = N + 1 := Routing.numel2 (N + 1)
  rw [← window_sum (fun u => x (ValueIdx.ix2 b u)) t]
  unfold Ideal.hostReduceWindowAdd Host.reduceWindow
  refine (foldl_add _ (fun n => if h : N ≤ t.val + (n.cast size).val
    then x (ValueIdx.ix2 b ⟨t.val + (n.cast size).val - N, by omega⟩) else 0) _ ?_ _).trans ?_
  · intro r n
    have hw0 : ((⟨2, ![1, N + 1]⟩ : Shape).rowMajor.symm n 0).val = 0 := by rw [Routing.symm2]; rfl
    have hw1 : ((⟨2, ![1, N + 1]⟩ : Shape).rowMajor.symm n 1).val = n.val := by rw [Routing.symm2]; rfl
    have hb := b.isLt
    have hn : n.val < N + 1 := (n.cast size).isLt
    refine congrArg (r + ·) ?_
    split
    · next hin =>
      have h1 := hin 1
      change N ≤ t.val * 1 + ((⟨2, ![1, N + 1]⟩ : Shape).rowMajor.symm n 1).val
        ∧ t.val * 1 + ((⟨2, ![1, N + 1]⟩ : Shape).rowMajor.symm n 1).val - N < N + 1 at h1
      rw [hw1] at h1
      rw [dif_pos (show N ≤ t.val + (n.cast size).val by show N ≤ t.val + n.val; omega)]
      refine congrArg x (funext fun a => Fin.ext ?_)
      match a with
      | ⟨0, _⟩ =>
        show b.val * 1 + ((⟨2, ![1, N + 1]⟩ : Shape).rowMajor.symm n 0).val - 0 = b.val
        rw [hw0, Nat.mul_one, Nat.add_zero, Nat.sub_zero]
      | ⟨1, _⟩ =>
        show t.val * 1 + ((⟨2, ![1, N + 1]⟩ : Shape).rowMajor.symm n 1).val - N = t.val + n.val - N
        rw [hw1, Nat.mul_one]
    · next hin =>
      rw [dif_neg fun hle : N ≤ t.val + (n.cast size).val => hin fun a => by
        change N ≤ t.val + n.val at hle
        match a with
        | ⟨0, _⟩ =>
          show 0 ≤ b.val * 1 + ((⟨2, ![1, N + 1]⟩ : Shape).rowMajor.symm n 0).val
            ∧ b.val * 1 + ((⟨2, ![1, N + 1]⟩ : Shape).rowMajor.symm n 0).val - 0 < R
          rw [hw0]
          omega
        | ⟨1, _⟩ =>
          show N ≤ t.val * 1 + ((⟨2, ![1, N + 1]⟩ : Shape).rowMajor.symm n 1).val
            ∧ t.val * 1 + ((⟨2, ![1, N + 1]⟩ : Shape).rowMajor.symm n 1).val - N < N + 1
          rw [hw1]
          omega]
  · rw [zero_add, ← List.ofFn_eq_map, List.sum_ofFn]
    exact Fintype.sum_equiv (finCongr size) _ _ fun n => rfl

/-- The running sum at step `t` of sample `b`. -/
theorem running (x : FVec Ideal S4x8192 .f32) (b : Fin 4) (t : Fin 8192) :
    Host.reduceWindowAdd ![1, 8192] ![1, 1] ![0, 8191] ![0, 0] x (val_main_call0_call0_v0 (F := Ideal))
      reduceWindows_S4x8192_S4x8192_w1s1p0_0_w8192s1p8191_0 h_S_ (ix2 b t) = ∑ u ∈ Finset.univ.filter (· ≤ t), x (ix2 b u) := by
  have z : val_main_call0_call0_v0 (F := Ideal) (Shape.Idx.first h_S_) = 0 := by
    rw [val_main_call0_call0_v0_apply, val_main_call0_call0_cst_apply]
    show Ideal.ofBits .f32 0x00000000#32 = 0
    simp [Ideal.ofBits, Ideal.ieee]
  have e := running_any (R := 4) (N := 8191) x reduceWindows_S4x8192_S4x8192_w1s1p0_0_w8192s1p8191_0 b t
  simp only [← ix2_eq_valueIdx] at e
  rw [← e]
  unfold Host.reduceWindowAdd
  rw [z]
  rfl

end Cert.ReferenceIdeal.Cum
-- ==== Proof.ReferenceLift.lean ====
module

public import proofs.«01_k».proof.Proof.Results
public import proofs.«01_k».proof.Proof.Consts
public import proofs.«01_k».proof.Proof.WordOps
public import proofs.«01_k».proof.Proof.ReferenceSal
public import proofs.«01_k».proof.Proof.ReferenceCum

@[expose] public section
set_option maxRecDepth 16384
noncomputable section

/-! # The features, their means and the lift, in the reference -/

namespace Cert.ReferenceIdeal.Lift

open Cert.ReferenceIdeal Cert.ReferenceIdeal.Gen Cert.ReferenceIdeal.Read
open Idealize.ShloMosaic Idealize.ShloMosaic.Tactic

variable (x : FVec Ideal S4x8192x128 .f32) (W1 : FVec Ideal S128x64 .f32) (b1 : FVec Ideal S64 .f32)
  (W2 : FVec Ideal S64x1 .f32) (b2 : FVec Ideal S1 .f32) (WL : FVec Ideal S131x16 .f32) (bL : FVec Ideal S16 .f32)
  (mu sg : FVec Ideal S131 .f32)

/-- The mean saliency up to step `t`. -/
theorem cum (b : Fin 4) (t : Fin 8192) :
    val_main_v45 (F := Ideal) x W1 b1 W2 b2 (ix2 b t) = Spec.cum (Results.sal x W1 b1 W2 b2 b) t := by
  have e : val_main_v39 (F := Ideal) x W1 b1 W2 b2 (ix2 b t)
      = ∑ u ∈ Finset.univ.filter (· ≤ t), Results.sal x W1 b1 W2 b2 b u := by
    unfold val_main_v39
    rw [Cum.running]
    exact Finset.sum_congr rfl fun u _ => Sal.sal x W1 b1 W2 b2 b u
  unfold val_main_v45 val_main_v44 val_main_v43 val_main_v42 val_main_v41 val_main_v40 val_main_cst_7
  generalize val_main_v39 (F := Ideal) x W1 b1 W2 b2 = s at e
  pointwise
  rw [e]
  rw [WordOps.num_ofNat t.val (by omega)]
  rfl

/-- The step number as a share of the length. -/
theorem share (b : Fin 4) (t : Fin 8192) : val_main_v38 (F := Ideal) (ix2 b t) = Spec.share t := by
  unfold val_main_v38 val_main_v37 val_main_v36 val_main_v35 val_main_cst_6
  pointwise
  rw [WordOps.num_ofNat t.val (by omega), Consts.steps]
  rfl

/-- The 131 features of step `t`. -/
theorem dense (b : Fin 4) (t : Fin 8192) (a : Fin 131) :
    val_main_v50 (F := Ideal) x W1 b1 W2 b2 (ix3 b t a)
      = Spec.dense (fun t d => x (ix3 b t d)) (Results.sal x W1 b1 W2 b2 b) t a := by
  have e1 := Sal.sal x W1 b1 W2 b2 b t
  have e2 := share b t
  have e3 := cum x W1 b1 W2 b2 b t
  unfold val_main_v50 val_main_v49 val_main_v48 val_main_v47 val_main_v46
  generalize val_main_v15 (F := Ideal) x W1 b1 W2 b2 = v15 at e1
  generalize val_main_v38 (F := Ideal) = v38 at e2
  generalize val_main_v45 (F := Ideal) x W1 b1 W2 b2 = v45 at e3
  pointwise
  rw [e1, e2, e3]
  have ha := a.isLt
  unfold Spec.dense
  by_cases h : a.val < 128
  · rw [dif_pos h, dif_pos h]
  · rw [dif_neg h, dif_neg h]
    by_cases h1 : a.val = 128
    · rw [dif_pos (by omega), if_pos h1]
    · rw [dif_neg (by omega), if_neg h1]
      by_cases h2 : a.val = 129
      · rw [dif_pos (by omega), if_pos h2]
      · rw [dif_neg (by omega), if_neg h2]

/-- The mean of feature `a`. -/
theorem mean (b : Fin 4) (a : Fin 131) :
    val_main_v54 (F := Ideal) x W1 b1 W2 b2 (ix3 b 0 a)
      = Spec.mean (fun t d => x (ix3 b t d)) (Results.sal x W1 b1 W2 b2 b) a := by
  have e := fun t => dense x W1 b1 W2 b2 b t a
  unfold val_main_v54 val_main_v53 val_main_v52 val_main_v51 val_main_cst_9 val_main_cst_8
  generalize val_main_v50 (F := Ideal) x W1 b1 W2 b2 = v50 at e
  pointwise
  rw [Consts.steps]
  simp only [e]
  rfl

/-- Unit `c` of the lift of step `t`. -/
theorem lift (b : Fin 4) (t : Fin 8192) (c : Fin 16) :
    val_main_v66 (F := Ideal) x W1 b1 W2 b2 WL bL mu sg (ix3 b t c)
      = Spec.lift (fun t d => x (ix3 b t d)) (Results.sal x W1 b1 W2 b2 b) (fun a => mu (ix1 a)) (fun a => sg (ix1 a))
          (fun a c => WL (ix2 a c)) (fun c => bL (ix1 c)) t c := by
  have e := fun a => dense x W1 b1 W2 b2 b t a
  have e' := fun a => mean x W1 b1 W2 b2 b a
  unfold val_main_v66 val_main_v65 val_main_v64 val_main_v63 val_main_v62 val_main_v61 val_main_v60 val_main_v59
    val_main_v58 val_main_v57 val_main_v56 val_main_v55
  generalize val_main_v50 (F := Ideal) x W1 b1 W2 b2 = v50 at e
  generalize val_main_v54 (F := Ideal) x W1 b1 W2 b2 = v54 at e'
  pointwise
  simp only [e, e']
  rfl

end Cert.ReferenceIdeal.Lift
-- ==== Proof.ReferenceTake.lean ====
module

public import proofs.«01_k».proof.Proof.Results
public import proofs.«01_k».proof.Proof.WordOps
public import proofs.«01_k».proof.Proof.Gen.ReferenceIdeal.Read
public import Idealize.ShloMosaic.Lib.Routing.OpsPair

@[expose] public section
set_option maxRecDepth 16384
noncomputable section

/-! # Taking the chosen steps' lifts, in the reference

The index words are checked to lie in range and the lift is read at them. -/

namespace Cert.ReferenceIdeal.Take

open Cert.ReferenceIdeal Cert.ReferenceIdeal.Gen Cert.ReferenceIdeal.Read
open Idealize.ShloMosaic Idealize.ShloMosaic.Tactic

variable (I : IVec S4x16 32)

/-- The word read for choice `k` of sample `b`, whatever the unit: the index word. -/
theorem word (h : ∀ y, (I y).toNat < 8192) (b : Fin 4) (k c : Fin 16) :
    val_main_call1_v5 (F := Ideal) I (ix4 b k c 0) = I (ix2 b k) := by
  unfold val_main_call1_v5 val_main_call1_v4 val_main_call1_v3 val_main_call1_v2 val_main_call1_v1 val_main_call1_v0
    val_main_call1_c_0 val_main_call1_c val_main_v68 val_main_v67
  pointwise
  exact Routing.wrap_of_lt _ _ (by have := h (ix2 b k); omega)

/-- Every word passes the check of its range. -/
theorem in_range (h : ∀ y, (I y).toNat < 8192) (b : Fin 4) (k c : Fin 16) :
    val_main_call1_v12 (F := Ideal) I (ix3 b k c) = 1#1 := by
  have e := word I h b k c
  unfold val_main_call1_v12 val_main_call1_c_3 val_main_call1_v11 val_main_call1_v10 val_main_call1_v9
    val_main_call1_v8 val_main_call1_v7 val_main_call1_v6 val_main_call1_c_1 val_main_call1_c_2
  generalize val_main_call1_v5 (F := Ideal) I = v5 at e
  pointwise
  rw [Finset.univ_unique, Finset.fold_singleton]
  show IntOp.andi (IntOp.andi (IntOp.cmpi .sge (v5 (ix4 b k c 0)) 0#32) (IntOp.cmpi .sle (v5 (ix4 b k c 0)) 8191#32)) 1#1 = 1#1
  have hw := h (ix2 b k)
  rw [e]
  generalize I (ix2 b k) = w at hw
  have h1 : (0#32).sle w = true := by
    rw [BitVec.sle_eq_decide, WordOps.toInt_small (w := w) (by omega)]
    simp
  have h2 : w.sle 8191#32 = true := by
    rw [BitVec.sle_eq_decide, WordOps.toInt_small (w := w) (by omega)]
    simp
    omega
  simp only [IntOp.cmpi, h1, h2]
  decide

/-- How the gather reads: sample by sample and unit by unit, the word naming the step. -/
abbrev G := gather_S4x8192x16_S4x16x16x1_S4x16x16_n_1_02_02_1_3_111

/-- The gather reads the operand at the step the word names. -/
theorem gathered (x : FVec Ideal S4x8192x16 .f32) (J : IVec S4x16x16x1 32) (b : Fin 4) (k c : Fin 16)
    (h : (J (ix4 b k c 0)).toNat < 8192) :
    Host.gather G x J (ix3 b k c)
      = x (ix3 b (Spec.step (J (ix4 b k c 0))) c) := by
  have hs : (Spec.step (J (ix4 b k c 0))).val = (J (ix4 b k c 0)).toNat := Spec.step_val h
  unfold Host.gather
  refine congrArg x (funext fun a => Fin.ext ?_)
  match a with
  | ⟨0, _⟩ =>
    show G.start (ix3 b k c) J 0 + G.batchCoord (ix3 b k c) 0 + G.offCoord (ix3 b k c) 0 = b.val
    rw [G.start_batching _ _ _ (by decide), G.offCoord_eq_zero _ _ (by decide)]
    show 0 + b.val + 0 = b.val
    omega
  | ⟨1, _⟩ =>
    show G.start (ix3 b k c) J 1 + G.batchCoord (ix3 b k c) 1 + G.offCoord (ix3 b k c) 1 = (Spec.step (J (ix4 b k c 0))).val
    rw [G.batchCoord_eq_zero _ _ (by decide), G.offCoord_eq_zero _ _ (by decide), hs]
    unfold GatherDims.start
    rw [dif_pos (by decide)]
    have hsi : G.siIdx (ix3 b k c) ⟨G.startIndexMap.idxOf 1, by decide⟩ = ix4 b k c 0 := by
      funext q
      match q with
      | ⟨0, _⟩ => rfl
      | ⟨1, _⟩ => rfl
      | ⟨2, _⟩ => rfl
      | ⟨3, _⟩ => rfl
    rw [hsi, WordOps.toInt_small (by omega)]
    show min (J (ix4 b k c 0)).toNat (8192 - 1) + 0 + 0 = _
    omega
  | ⟨2, _⟩ =>
    show G.start (ix3 b k c) J 2 + G.batchCoord (ix3 b k c) 2 + G.offCoord (ix3 b k c) 2 = c.val
    rw [G.start_batching _ _ _ (by decide), G.offCoord_eq_zero _ _ (by decide)]
    show 0 + c.val + 0 = c.val
    omega

end Cert.ReferenceIdeal.Take
-- ==== Proof.ReferenceToken.lean ====
module

public import proofs.«01_k».proof.Proof.ReferenceLift
public import proofs.«01_k».proof.Proof.ReferenceTake

@[expose] public section
set_option maxRecDepth 16384
noncomputable section

/-! # The tokens the reference computes -/

namespace Cert.ReferenceIdeal.Token

open Cert.ReferenceIdeal Cert.ReferenceIdeal.Gen Cert.ReferenceIdeal.Read
open Idealize.ShloMosaic Idealize.ShloMosaic.Tactic

variable (x : FVec Ideal S4x8192x128 .f32) (W1 : FVec Ideal S128x64 .f32) (b1 : FVec Ideal S64 .f32)
  (W2 : FVec Ideal S64x1 .f32) (b2 : FVec Ideal S1 .f32) (WL : FVec Ideal S131x16 .f32) (bL : FVec Ideal S16 .f32)
  (WP : FVec Ideal S16x1024 .f32) (bP : FVec Ideal S1024 .f32) (mu sg : FVec Ideal S131 .f32) (I : IVec S4x16 32)

/-- The lift of the chosen step, unit `c`. -/
theorem cloud (h : ∀ y, (I y).toNat < 8192) (b : Fin 4) (k c : Fin 16) :
    val_main_v69 (F := Ideal) x W1 b1 W2 b2 WL bL mu sg I (ix3 b k c)
      = Spec.lift (fun t d => x (ix3 b t d)) (Results.sal x W1 b1 W2 b2 b) (fun a => mu (ix1 a)) (fun a => sg (ix1 a))
          (fun a c => WL (ix2 a c)) (fun c => bL (ix1 c)) (Spec.step (I (ix2 b k))) c := by
  rw [val_main_v69_apply, Take.in_range I h b k c]
  show val_main_call1_v13 (F := Ideal) x W1 b1 W2 b2 WL bL mu sg I (ix3 b k c) = _
  unfold val_main_call1_v13
  rw [Take.gathered _ _ b k c (by rw [Take.word I h]; exact h _), Take.word I h, Lift.lift]

/-- The reference's first result is the formula's. -/
theorem tokens (h : ∀ y, (I y).toNat < 8192) :
    val_main_v73 (F := Ideal) x W1 b1 W2 b2 WL bL WP bP mu sg I = Results.tokens x W1 b1 W2 b2 WL bL WP bP mu sg I := by
  funext i
  idx_vars i
  have e := fun c => cloud x W1 b1 W2 b2 WL bL mu sg I h i0 i1 c
  unfold val_main_v73 val_main_v72 val_main_v71 val_main_v70
  generalize val_main_v69 (F := Ideal) x W1 b1 W2 b2 WL bL mu sg I = v69 at e
  pointwise
  simp only [e]
  rfl

end Cert.ReferenceIdeal.Token
-- ==== Proof.lean ====
/- The certificate's claims, assembled: the three programs run and leave their arguments and the semaphores as they found
   them, the kernel over extended reals is the kernel's own text, and its two results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_named
public import proofs.«01_k».proof.Proof.KernelRows
public import proofs.«01_k».proof.Proof.KernelIdealRows
public import proofs.«01_k».proof.Proof.KernelRun
public import proofs.«01_k».proof.Proof.ReferenceMarks
public import proofs.«01_k».proof.Proof.ReferenceToken
public import proofs.«01_k».proof.Proof.Gen.Pre_rows_drawn
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.ShloMosaic.ValueIdx Idealize.SL.Sem

/-- The kernel as compiled runs, under indices that name time steps. -/
theorem frame_kernel : Cert.quiescent_Kernel := fun m ρ h =>
  Cert.Kernel.Gen.frame m ρ (Cert.Kernel.Rows.hyps_of_lt m fun c y => Cert.Words.lt_of_named (h c) y)

/-- The kernel over extended reals runs, under indices that name time steps. -/
theorem frame_ideal : Cert.quiescent_KernelIdeal := fun m ρ h =>
  Cert.KernelIdeal.Gen.frame m ρ (Cert.KernelIdeal.Rows.hyps_of_lt m fun c y => Cert.Words.lt_of_named (h c) y)

/-- Distinct indices that name time steps name time steps. -/
theorem lt_of_drawn {m} (h : Cert.Pre_KernelIdeal_rows_drawn m) (c : Dev Cert.KernelIdeal.nD)
    (y : Cert.KernelIdeal.S4x16.Idx) :
    (m ((c : Thread Cert.KernelIdeal.nD Cert.KernelIdeal.τ).loc Cert.KernelIdeal.main_arg11) y).toNat < 8192 := by
  rw [ValueIdx.eq_ix2 y]
  exact (Cert.Words.of_drawn (h c) (y 0) (y 1) (y 1)).1

/-- The kernel over extended reals runs, under indices drawn without repetition. -/
theorem frame_ideal_drawn : Cert.quiescent_KernelIdeal_pre_rows_drawn := fun m ρ h =>
  Cert.KernelIdeal.Gen.frame m ρ (Cert.KernelIdeal.Rows.hyps_of_lt m (lt_of_drawn h))

/-- The reference runs from every memory; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The reference runs under the second precondition as well. -/
theorem frame_reference_drawn : Cert.quiescent_ReferenceIdeal_pre_rows_drawn := fun m ρ _ =>
  frame_reference m ρ trivial

/-- Indices drawn without repetition differ within a sample. -/
theorem distinct_of_drawn {m} (h : Cert.Pre_KernelIdeal_rows_drawn m) (c : Dev Cert.KernelIdeal.nD) :
    Cert.KernelIdeal.Arrays.Distinct m c := fun b j k hjk => by
  simp only [Idealize.ShloMosaic.ix2_eq_valueIdx] at hjk
  exact (Cert.Words.of_drawn (h c) b j k).2 hjk

/-- On the same arguments, with indices drawn without repetition, the kernel over extended reals and the reference end
with the same tokens and the same marks: both are the formulas of the module Results. -/
theorem value : Cert.algebraic_KernelIdeal_ReferenceIdeal_pre_rows_drawn := fun m g m' g' hpre hargs => by
  have hb := lt_of_drawn hpre
  refine ⟨fun c => Cert.KernelIdeal.Arrays.tokens m c, fun c => Cert.KernelIdeal.Arrays.marks m c,
    Cert.KernelIdeal.Run.run m g hb (distinct_of_drawn hpre), ?_⟩
  refine (θ_run Cert.ReferenceIdeal.defs _ _).mono (fun r h c => ⟨?_, ?_, (h c).2.2⟩)
    (Cert.ReferenceIdeal.Value.run m' g')
  · obtain ⟨e0, e1, e2, e3, e4, e5, e6, e7, e8, e9, e10, e11⟩ := hargs c
    refine (h c).1.trans ?_
    rw [Cert.ReferenceIdeal.Read.val_main_v73_eq, e0, e1, e2, e3, e4, e5, e6, e7, e8, e9, e10, e11]
    exact Cert.ReferenceIdeal.Token.tokens _ _ _ _ _ _ _ _ _ _ _ _ (hb c)
  · refine (h c).2.1.trans ((Cert.ReferenceIdeal.Read.val_main_v34_eq _).trans ?_)
    rw [(hargs c).2.2.2.2.2.2.2.2.2.2.2]
    exact Cert.ReferenceIdeal.Marks.marks _ (hb c)

/-- Everything the certificate claims. -/
theorem claim : Cert.Claim :=
  ⟨Cert.Kernel.Gen.facts, Cert.KernelIdeal.Gen.facts, Cert.ReferenceIdeal.Gen.facts, Cert.Pre_rows_named.Gen.facts,
    Cert.Pre_rows_drawn.Gen.facts, frame_kernel, frame_ideal, frame_ideal_drawn, frame_reference,
    frame_reference_drawn, trivial, value⟩

end Cert.Proof

end
